-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v128) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16384x2048 : Shape := ⟨2, ![16384, 2048]⟩
abbrev S8x2048x64 : Shape := ⟨3, ![8, 2048, 64]⟩
abbrev S2048x8x64 : Shape := ⟨3, ![2048, 8, 64]⟩
abbrev S2048x512 : Shape := ⟨2, ![2048, 512]⟩
abbrev S512x2048 : Shape := ⟨2, ![512, 2048]⟩
abbrev S8x16384 : Shape := ⟨2, ![8, 16384]⟩
abbrev S1024x2048 : Shape := ⟨2, ![1024, 2048]⟩
abbrev S8x1024 : Shape := ⟨2, ![8, 1024]⟩
abbrev S1 : Shape := ⟨1, ![1]⟩
abbrev S2048x1024 : Shape := ⟨2, ![2048, 1024]⟩
abbrev S512x1024 : Shape := ⟨2, ![512, 1024]⟩
abbrev S2048x64 : Shape := ⟨2, ![2048, 64]⟩
abbrev S64x1024 : Shape := ⟨2, ![64, 1024]⟩
abbrev S1024 : Shape := ⟨1, ![1024]⟩
abbrev S1x1024 : Shape := ⟨2, ![1, 1024]⟩
abbrev S1x8x1024 : Shape := ⟨3, ![1, 8, 1024]⟩
abbrev S1x1x1 : Shape := ⟨3, ![1, 1, 1]⟩
abbrev S16384x8 : Shape := ⟨2, ![16384, 8]⟩

abbrev nBuf : Space → Nat
  | .hbm => 8
  | .vmem => 7
  | .smem => 1
  | _ => 0

abbrev bufTy : (tb : Table) → Fin (tcTables nBuf tb) → BufTy
  | .hbm, ⟨0, _⟩ => ⟨S16384x2048, .f32⟩
  | .hbm, ⟨1, _⟩ => ⟨S16384x2048, .f32⟩
  | .hbm, ⟨2, _⟩ => ⟨S8x2048x64, .f32⟩
  | .hbm, ⟨3, _⟩ => ⟨S2048x8x64, .f32⟩
  | .hbm, ⟨4, _⟩ => ⟨S2048x512, .f32⟩
  | .hbm, ⟨5, _⟩ => ⟨S512x2048, .f32⟩
  | .hbm, ⟨6, _⟩ => ⟨S8x16384, .f32⟩
  | .hbm, ⟨7, _⟩ => ⟨S16384x8, .f32⟩
  | .local _ .vmem, ⟨0, _⟩ => ⟨S1024x2048, .f32⟩
  | .local _ .vmem, ⟨1, _⟩ => ⟨S1024x2048, .f32⟩
  | .local _ .vmem, ⟨2, _⟩ => ⟨S512x2048, .f32⟩
  | .local _ .vmem, ⟨3, _⟩ => ⟨S2048x512, .f32⟩
  | .local _ .vmem, ⟨4, _⟩ => ⟨S8x1024, .f32⟩
  | .local _ .vmem, ⟨5, _⟩ => ⟨S8x1024, .f32⟩
  | .local _ .vmem, ⟨6, _⟩ => ⟨S8x16384, .f32⟩
  | .local _ .smem, ⟨0, _⟩ => ⟨S1, .i32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .smem, ⟨0, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_scratch1 : Ref sig .tc := ⟨.smem, 0, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![2, 16], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_off1 (i : grid0.Coords) : Fin 2 → Nat :=
  let c0_33 : Index := 0#32
  let arg1 : BitVec 32 := BitVec.ofNat 32 (i 1).val
  let c1024_i32 : BitVec 32 := 1024#32
  let v95 : BitVec 32 := Scalar.muli arg1 c1024_i32
  let v96 : Index := Scalar.indexCast v95
  ![0, v96.toNat]
def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def k0_off2 (i : grid0.Coords) : Fin 2 → Nat :=
  let c0 : Index := 0#32
  let arg1 : BitVec 32 := BitVec.ofNat 32 (i 1).val
  let c1024_i32 : BitVec 32 := 1024#32
  let v6 : BitVec 32 := Scalar.muli arg1 c1024_i32
  let v7 : Index := Scalar.indexCast v6
  ![0, v7.toNat]
def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi c1_i32 arg0
  let v1 : BitVec 32 := Scalar.muli arg1 v0
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S512x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S2048x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]
-- ==== ReferenceIdeal.lean ====
abbrev S16384x2048 : Shape := ⟨2, ![16384, 2048]⟩
abbrev S8x2048x64 : Shape := ⟨3, ![8, 2048, 64]⟩
abbrev S1x2048x64 : Shape := ⟨3, ![1, 2048, 64]⟩
abbrev S2048x64 : Shape := ⟨2, ![2048, 64]⟩
abbrev S64x2048 : Shape := ⟨2, ![64, 2048]⟩
abbrev S2048x16384 : Shape := ⟨2, ![2048, 16384]⟩
abbrev S64x16384 : Shape := ⟨2, ![64, 16384]⟩
abbrev S_ : Shape := ⟨0, ![]⟩
abbrev S16384 : Shape := ⟨1, ![16384]⟩
abbrev S16384x1 : Shape := ⟨2, ![16384, 1]⟩
abbrev S16384x8 : Shape := ⟨2, ![16384, 8]⟩
abbrev S1x8 : Shape := ⟨2, ![1, 8]⟩
abbrev S16384x2 : Shape := ⟨2, ![16384, 2]⟩
abbrev S16384x2x1 : Shape := ⟨3, ![16384, 2, 1]⟩
abbrev S16384x2x2 : Shape := ⟨3, ![16384, 2, 2]⟩

abbrev nBuf : Space → Nat
  | .hbm => 180
  | .vmem => 0
  | .smem => 0
  | _ => 0

abbrev hbmTy0_0 (i : Nat) : BufTy := match i % 128 with
  | 0 => ⟨S16384x2048, .f32⟩
  | 1 => ⟨S16384x2048, .f32⟩
  | 2 => ⟨S8x2048x64, .f32⟩
  | 3 => ⟨S1x2048x64, .f32⟩
  | 4 => ⟨S2048x64, .f32⟩
  | 5 => ⟨S64x2048, .f32⟩
  | 6 => ⟨S2048x16384, .f32⟩
  | 7 => ⟨S64x16384, .f32⟩
  | 8 => ⟨S2048x16384, .f32⟩
  | 9 => ⟨S16384x2048, .f32⟩
  | 10 => ⟨S16384x2048, .f32⟩
  | 11 => ⟨S16384x2048, .f32⟩
  | 12 => ⟨S_, .f32⟩
  | 13 => ⟨S16384, .f32⟩
  | 14 => ⟨S16384, .f32⟩
  | 15 => ⟨S1x2048x64, .f32⟩
  | 16 => ⟨S2048x64, .f32⟩
  | 17 => ⟨S64x2048, .f32⟩
  | 18 => ⟨S2048x16384, .f32⟩
  | 19 => ⟨S64x16384, .f32⟩
  | 20 => ⟨S2048x16384, .f32⟩
  | 21 => ⟨S16384x2048, .f32⟩
  | 22 => ⟨S16384x2048, .f32⟩
  | 23 => ⟨S16384x2048, .f32⟩
  | 24 => ⟨S_, .f32⟩
  | 25 => ⟨S16384, .f32⟩
  | 26 => ⟨S16384, .f32⟩
  | 27 => ⟨S1x2048x64, .f32⟩
  | 28 => ⟨S2048x64, .f32⟩
  | 29 => ⟨S64x2048, .f32⟩
  | 30 => ⟨S2048x16384, .f32⟩
  | 31 => ⟨S64x16384, .f32⟩
  | 32 => ⟨S2048x16384, .f32⟩
  | 33 => ⟨S16384x2048, .f32⟩
  | 34 => ⟨S16384x2048, .f32⟩
  | 35 => ⟨S16384x2048, .f32⟩
  | 36 => ⟨S_, .f32⟩
  | 37 => ⟨S16384, .f32⟩
  | 38 => ⟨S16384, .f32⟩
  | 39 => ⟨S1x2048x64, .f32⟩
  | 40 => ⟨S2048x64, .f32⟩
  | 41 => ⟨S64x2048, .f32⟩
  | 42 => ⟨S2048x16384, .f32⟩
  | 43 => ⟨S64x16384, .f32⟩
  | 44 => ⟨S2048x16384, .f32⟩
  | 45 => ⟨S16384x2048, .f32⟩
  | 46 => ⟨S16384x2048, .f32⟩
  | 47 => ⟨S16384x2048, .f32⟩
  | 48 => ⟨S_, .f32⟩
  | 49 => ⟨S16384, .f32⟩
  | 50 => ⟨S16384, .f32⟩
  | 51 => ⟨S1x2048x64, .f32⟩
  | 52 => ⟨S2048x64, .f32⟩
  | 53 => ⟨S64x2048, .f32⟩
  | 54 => ⟨S2048x16384, .f32⟩
  | 55 => ⟨S64x16384, .f32⟩
  | 56 => ⟨S2048x16384, .f32⟩
  | 57 => ⟨S16384x2048, .f32⟩
  | 58 => ⟨S16384x2048, .f32⟩
  | 59 => ⟨S16384x2048, .f32⟩
  | 60 => ⟨S_, .f32⟩
  | 61 => ⟨S16384, .f32⟩
  | 62 => ⟨S16384, .f32⟩
  | 63 => ⟨S1x2048x64, .f32⟩
  | 64 => ⟨S2048x64, .f32⟩
  | 65 => ⟨S64x2048, .f32⟩
  | 66 => ⟨S2048x16384, .f32⟩
  | 67 => ⟨S64x16384, .f32⟩
  | 68 => ⟨S2048x16384, .f32⟩
  | 69 => ⟨S16384x2048, .f32⟩
  | 70 => ⟨S16384x2048, .f32⟩
  | 71 => ⟨S16384x2048, .f32⟩
  | 72 => ⟨S_, .f32⟩
  | 73 => ⟨S16384, .f32⟩
  | 74 => ⟨S16384, .f32⟩
  | 75 => ⟨S1x2048x64, .f32⟩
  | 76 => ⟨S2048x64, .f32⟩
  | 77 => ⟨S64x2048, .f32⟩
  | 78 => ⟨S2048x16384, .f32⟩
  | 79 => ⟨S64x16384, .f32⟩
  | 80 => ⟨S2048x16384, .f32⟩
  | 81 => ⟨S16384x2048, .f32⟩
  | 82 => ⟨S16384x2048, .f32⟩
  | 83 => ⟨S16384x2048, .f32⟩
  | 84 => ⟨S_, .f32⟩
  | 85 => ⟨S16384, .f32⟩
  | 86 => ⟨S16384, .f32⟩
  | 87 => ⟨S1x2048x64, .f32⟩
  | 88 => ⟨S2048x64, .f32⟩
  | 89 => ⟨S64x2048, .f32⟩
  | 90 => ⟨S2048x16384, .f32⟩
  | 91 => ⟨S64x16384, .f32⟩
  | 92 => ⟨S2048x16384, .f32⟩
  | 93 => ⟨S16384x2048, .f32⟩
  | 94 => ⟨S16384x2048, .f32⟩
  | 95 => ⟨S16384x2048, .f32⟩
  | 96 => ⟨S_, .f32⟩
  | 97 => ⟨S16384, .f32⟩
  | 98 => ⟨S16384, .f32⟩
  | 99 => ⟨S16384x1, .f32⟩
  | 100 => ⟨S16384x1, .f32⟩
  | 101 => ⟨S16384x1, .f32⟩
  | 102 => ⟨S16384x1, .f32⟩
  | 103 => ⟨S16384x1, .f32⟩
  | 104 => ⟨S16384x1, .f32⟩
  | 105 => ⟨S16384x1, .f32⟩
  | 106 => ⟨S16384x1, .f32⟩
  | 107 => ⟨S16384x8, .f32⟩
  | 108 => ⟨S16384x8, .f32⟩
  | 109 => ⟨S_, .f32⟩
  | 110 => ⟨S16384, .f32⟩
  | 111 => ⟨S_, .f32⟩
  | 112 => ⟨S16384, .f32⟩
  | 113 => ⟨S16384, .f32⟩
  | 114 => ⟨S16384x1, .f32⟩
  | 115 => ⟨S16384x8, .f32⟩
  | 116 => ⟨S16384x8, .f32⟩
  | 117 => ⟨S16384x8, .f32⟩
  | 118 => ⟨S_, .f32⟩
  | 119 => ⟨S16384, .f32⟩
  | 120 => ⟨S16384x1, .f32⟩
  | 121 => ⟨S16384x8, .f32⟩
  | 122 => ⟨S16384x8, .f32⟩
  | 123 => ⟨S_, .f32⟩
  | 124 => ⟨S16384x8, .f32⟩
  | 125 => ⟨S16384x8, .i1⟩
  | 126 => ⟨S16384x8, .i32⟩
  | 127 => ⟨S_, .f32⟩
  | _ => ⟨S16384x2048, .f32⟩

abbrev hbmTy0_1 (i : Nat) : BufTy := match i % 128 with
  | 0 => ⟨S_, .i32⟩
  | 1 => ⟨S16384, .f32⟩
  | 2 => ⟨S16384, .i32⟩
  | 3 => ⟨S16384x1, .i32⟩
  | 4 => ⟨S1x8, .i32⟩
  | 5 => ⟨S16384x8, .i32⟩
  | 6 => ⟨S16384x8, .i32⟩
  | 7 => ⟨S16384x8, .i1⟩
  | 8 => ⟨S_, .i1⟩
  | 9 => ⟨S_, .i1⟩
  | 10 => ⟨S16384x8, .i1⟩
  | 11 => ⟨S16384x2, .f32⟩
  | 12 => ⟨S16384x2, .i32⟩
  | 13 => ⟨S16384, .i32⟩
  | 14 => ⟨S16384x1, .i32⟩
  | 15 => ⟨S_, .i1⟩
  | 16 => ⟨S16384x8, .i1⟩
  | 17 => ⟨S_, .i32⟩
  | 18 => ⟨S16384x1, .i32⟩
  | 19 => ⟨S16384x1, .i1⟩
  | 20 => ⟨S_, .i32⟩
  | 21 => ⟨S16384x1, .i32⟩
  | 22 => ⟨S16384x1, .i32⟩
  | 23 => ⟨S16384x1, .i32⟩
  | 24 => ⟨S_, .i32⟩
  | 25 => ⟨S16384x2, .i32⟩
  | 26 => ⟨S16384x2, .i1⟩
  | 27 => ⟨S_, .i32⟩
  | 28 => ⟨S16384x2, .i32⟩
  | 29 => ⟨S16384x2, .i32⟩
  | 30 => ⟨S16384x2, .i32⟩
  | 31 => ⟨S16384x2, .i32⟩
  | 32 => ⟨S16384x2x1, .i32⟩
  | 33 => ⟨S16384x2x1, .i32⟩
  | 34 => ⟨S16384x2x2, .i32⟩
  | 35 => ⟨S_, .i1⟩
  | 36 => ⟨S16384x2, .i1⟩
  | 37 => ⟨S16384x8, .i1⟩
  | 38 => ⟨S16384x8, .i1⟩
  | 39 => ⟨S16384x8, .f32⟩
  | 40 => ⟨S16384x8, .f32⟩
  | 41 => ⟨S_, .f32⟩
  | 42 => ⟨S16384, .f32⟩
  | 43 => ⟨S16384x1, .f32⟩
  | 44 => ⟨S_, .f32⟩
  | 45 => ⟨S16384x1, .f32⟩
  | 46 => ⟨S16384x1, .i1⟩
  | 47 => ⟨S_, .f32⟩
  | 48 => ⟨S16384x1, .f32⟩
  | 49 => ⟨S16384x1, .f32⟩
  | 50 => ⟨S16384x8, .f32⟩
  | 51 => ⟨S16384x8, .f32⟩
  | _ => ⟨S16384x2048, .f32⟩

abbrev hbmTy (i : Nat) : BufTy := match i / 128 with
  | 0 => hbmTy0_0 i
  | 1 => hbmTy0_1 i
  | _ => ⟨S16384x2048, .f32⟩

abbrev bufTy : (tb : Table) → Fin (tcTables nBuf tb) → BufTy
  | .hbm, ⟨i, _⟩ => hbmTy i
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_call0_v0 : Ref sig .tc := ⟨.hbm, 11, rfl⟩
abbrev main_call0_cst : Ref sig .tc := ⟨.hbm, 12, rfl⟩
abbrev main_call0_v1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_call1_v0 : Ref sig .tc := ⟨.hbm, 23, rfl⟩
abbrev main_call1_cst : Ref sig .tc := ⟨.hbm, 24, rfl⟩
abbrev main_call1_v1 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_call2_v0 : Ref sig .tc := ⟨.hbm, 35, rfl⟩
abbrev main_call2_cst : Ref sig .tc := ⟨.hbm, 36, rfl⟩
abbrev main_call2_v1 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_call3_v0 : Ref sig .tc := ⟨.hbm, 47, rfl⟩
abbrev main_call3_cst : Ref sig .tc := ⟨.hbm, 48, rfl⟩
abbrev main_call3_v1 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_call4_v0 : Ref sig .tc := ⟨.hbm, 59, rfl⟩
abbrev main_call4_cst : Ref sig .tc := ⟨.hbm, 60, rfl⟩
abbrev main_call4_v1 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_call5_v0 : Ref sig .tc := ⟨.hbm, 71, rfl⟩
abbrev main_call5_cst : Ref sig .tc := ⟨.hbm, 72, rfl⟩
abbrev main_call5_v1 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_call6_v0 : Ref sig .tc := ⟨.hbm, 83, rfl⟩
abbrev main_call6_cst : Ref sig .tc := ⟨.hbm, 84, rfl⟩
abbrev main_call6_v1 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_call7_v0 : Ref sig .tc := ⟨.hbm, 95, rfl⟩
abbrev main_call7_cst : Ref sig .tc := ⟨.hbm, 96, rfl⟩
abbrev main_call7_v1 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_cst : Ref sig .tc := ⟨.hbm, 109, rfl⟩
abbrev main_v82 : Ref sig .tc := ⟨.hbm, 110, rfl⟩
abbrev main_cst_0 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_cst_1 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_cst_2 : Ref sig .tc := ⟨.hbm, 123, rfl⟩
abbrev main_v93 : Ref sig .tc := ⟨.hbm, 124, rfl⟩
abbrev main_v94 : Ref sig .tc := ⟨.hbm, 125, rfl⟩
abbrev main_call8_v0 : Ref sig .tc := ⟨.hbm, 126, rfl⟩
abbrev main_call8_cst : Ref sig .tc := ⟨.hbm, 127, rfl⟩
abbrev main_call8_c : Ref sig .tc := ⟨.hbm, 128, rfl⟩
abbrev main_call8_v1_0 : Ref sig .tc := ⟨.hbm, 129, rfl⟩
abbrev main_v95 : Ref sig .tc := ⟨.hbm, 130, rfl⟩
abbrev main_call9_v0 : Ref sig .tc := ⟨.hbm, 131, rfl⟩
abbrev main_call9_v1 : Ref sig .tc := ⟨.hbm, 132, rfl⟩
abbrev main_call9_v2 : Ref sig .tc := ⟨.hbm, 133, rfl⟩
abbrev main_call9_v3 : Ref sig .tc := ⟨.hbm, 134, rfl⟩
abbrev main_v96 : Ref sig .tc := ⟨.hbm, 135, rfl⟩
abbrev main_c : Ref sig .tc := ⟨.hbm, 136, rfl⟩
abbrev main_v97 : Ref sig .tc := ⟨.hbm, 137, rfl⟩
abbrev main_v98 : Ref sig .tc := ⟨.hbm, 138, rfl⟩
abbrev main_values : Ref sig .tc := ⟨.hbm, 139, rfl⟩
abbrev main_indices : Ref sig .tc := ⟨.hbm, 140, rfl⟩
abbrev main_v99 : Ref sig .tc := ⟨.hbm, 141, rfl⟩
abbrev main_v100 : Ref sig .tc := ⟨.hbm, 142, rfl⟩
abbrev main_c_3 : Ref sig .tc := ⟨.hbm, 143, rfl⟩
abbrev main_v101 : Ref sig .tc := ⟨.hbm, 144, rfl⟩
abbrev main_c_4 : Ref sig .tc := ⟨.hbm, 145, rfl⟩
abbrev main_v102 : Ref sig .tc := ⟨.hbm, 146, rfl⟩
abbrev main_v103 : Ref sig .tc := ⟨.hbm, 147, rfl⟩
abbrev main_c_5 : Ref sig .tc := ⟨.hbm, 148, rfl⟩
abbrev main_v104 : Ref sig .tc := ⟨.hbm, 149, rfl⟩
abbrev main_v105 : Ref sig .tc := ⟨.hbm, 150, rfl⟩
abbrev main_v106 : Ref sig .tc := ⟨.hbm, 151, rfl⟩
abbrev main_c_6 : Ref sig .tc := ⟨.hbm, 152, rfl⟩
abbrev main_v107 : Ref sig .tc := ⟨.hbm, 153, rfl⟩
abbrev main_v108 : Ref sig .tc := ⟨.hbm, 154, rfl⟩
abbrev main_c_7 : Ref sig .tc := ⟨.hbm, 155, rfl⟩
abbrev main_v109 : Ref sig .tc := ⟨.hbm, 156, rfl⟩
abbrev main_v110 : Ref sig .tc := ⟨.hbm, 157, rfl⟩
abbrev main_v111 : Ref sig .tc := ⟨.hbm, 158, rfl⟩
abbrev main_v112 : Ref sig .tc := ⟨.hbm, 159, rfl⟩
abbrev main_v113 : Ref sig .tc := ⟨.hbm, 160, rfl⟩
abbrev main_v114 : Ref sig .tc := ⟨.hbm, 161, rfl⟩
abbrev main_v115 : Ref sig .tc := ⟨.hbm, 162, rfl⟩
abbrev main_c_8 : Ref sig .tc := ⟨.hbm, 163, rfl⟩
abbrev main_v116 : Ref sig .tc := ⟨.hbm, 164, rfl⟩
abbrev main_v117 : Ref sig .tc := ⟨.hbm, 165, rfl⟩
abbrev main_v118 : Ref sig .tc := ⟨.hbm, 166, rfl⟩
abbrev main_v119 : Ref sig .tc := ⟨.hbm, 167, rfl⟩
abbrev main_v120 : Ref sig .tc := ⟨.hbm, 168, rfl⟩
abbrev main_cst_9 : Ref sig .tc := ⟨.hbm, 169, rfl⟩
abbrev main_v121 : Ref sig .tc := ⟨.hbm, 170, rfl⟩
abbrev main_v122 : Ref sig .tc := ⟨.hbm, 171, rfl⟩
abbrev main_cst_10 : Ref sig .tc := ⟨.hbm, 172, rfl⟩
abbrev main_v123 : Ref sig .tc := ⟨.hbm, 173, rfl⟩
abbrev main_v124 : Ref sig .tc := ⟨.hbm, 174, rfl⟩
abbrev main_cst_11 : Ref sig .tc := ⟨.hbm, 175, rfl⟩
abbrev main_v125 : Ref sig .tc := ⟨.hbm, 176, rfl⟩
abbrev main_v126 : Ref sig .tc := ⟨.hbm, 177, rfl⟩
abbrev main_v127 : Ref sig .tc := ⟨.hbm, 178, rfl⟩
abbrev main_v128 : Ref sig .tc := ⟨.hbm, 179, rfl⟩

abbrev nD : Nat := 1
abbrev τ : Topo := Topo.v7x

variable {F : FTy → Type} [FloatOps F]
-- ==== Proof.Ideal.Body.lean ====
/-
  What one grid point of the kernel does. At a point of phase 0 the body reads its block of rows and both layouts of the
  experts' bases, stores the block's weights into its columns of the first scratch and folds the block's flag into the
  second; at a point of phase 1 it reads those columns and the flag back and stores the masked, normalised weights into the
  result's staging buffer.
-/
module

public import proofs.«01_k».proof.KernelIdeal
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import Idealize.ShloMosaic.Lib.WholeRead

@[expose] public section

noncomputable section

namespace Cert.KernelIdeal.Router

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option maxRecDepth 16384

/-- The columns `64 e … 64 e + 63` of the bases laid side by side: expert `e`'s basis. -/
def cols (wm : Vec F S2048x512 .f32) (off : Fin 2 → ℕ) (h : ∀ a, off a + S2048x64.size a ≤ S2048x512.size a) :
    Vec F S2048x64 .f32 :=
  fun y => wm ((Rect.unit (s := S2048x512) off S2048x64.size h).toLoadRect.idx y)

/-- The negated residual norms of a block of rows, an expert a row. -/
def logits (x : Vec F S1024x2048 .f32) (wt : Vec F S512x2048 .f32) (wm : Vec F S2048x512 .f32) : FVec F S8x1024 .f32 :=
  k0_pay11 (k0_pay5 x) (k0_pay6 x wt)
    (k0_pay7 x wt (cols wm ![0, 0] inb_S2048x512_S2048x64_0_0)) (k0_pay8 x wt (cols wm ![0, 64] inb_S2048x512_S2048x64_0_64))
    (k0_pay9 x wt (cols wm ![0, 128] inb_S2048x512_S2048x64_0_128)) (k0_pay10 x wt (cols wm ![0, 192] inb_S2048x512_S2048x64_0_192))
    (cols wm ![0, 256] inb_S2048x512_S2048x64_0_256) (cols wm ![0, 320] inb_S2048x512_S2048x64_0_320)
    (cols wm ![0, 384] inb_S2048x512_S2048x64_0_384) (cols wm ![0, 448] inb_S2048x512_S2048x64_0_448)

/-- Their column maxima. -/
def peaks (x : Vec F S1024x2048 .f32) (wt : Vec F S512x2048 .f32) (wm : Vec F S2048x512 .f32) : FVec F S1024 .f32 :=
  k0_pay12 (k0_pay5 x) (k0_pay6 x wt)
    (k0_pay7 x wt (cols wm ![0, 0] inb_S2048x512_S2048x64_0_0)) (k0_pay8 x wt (cols wm ![0, 64] inb_S2048x512_S2048x64_0_64))
    (k0_pay9 x wt (cols wm ![0, 128] inb_S2048x512_S2048x64_0_128)) (k0_pay10 x wt (cols wm ![0, 192] inb_S2048x512_S2048x64_0_192))
    (cols wm ![0, 256] inb_S2048x512_S2048x64_0_256) (cols wm ![0, 320] inb_S2048x512_S2048x64_0_320)
    (cols wm ![0, 384] inb_S2048x512_S2048x64_0_384) (cols wm ![0, 448] inb_S2048x512_S2048x64_0_448)

/-- The block's weights, and its flag: does any of them pass the threshold? -/
def weights (x : Vec F S1024x2048 .f32) (wt : Vec F S512x2048 .f32) (wm : Vec F S2048x512 .f32) : Vec F S8x1024 .f32 :=
  k0_pay2 (logits x wt wm) (peaks x wt wm)
def passes (x : Vec F S1024x2048 .f32) (wt : Vec F S512x2048 .f32) (wm : Vec F S2048x512 .f32) : BitVec 32 :=
  Scalar.extui (Scalar.cmpf .ogt (k0_pay3 (logits x wt wm) (peaks x wt wm)) (Scalar.ofBits .f32 0x00000000#32))

/-- What a block's result is, of its weights and the flag of the whole array. -/
def routed (w : Vec F S8x1024 .f32) (a : Elt F .i32) : Vec F S8x1024 .f32 :=
  k0_pay4 (k0_pay13 w a) (k0_pay14 w a) (k0_pay15 w a)

abbrev scr0 : Memref sig .tc .vmem S8x16384 .f32 := Memref.whole cc0_scratch0
abbrev scr1 : Memref sig .tc .smem S1 .i32 := Memref.whole cc0_scratch1

theorem readAt_whole {sp : Space} {s : Shape} {e : EltTy} {M : Memref sig .tc sp s e} (h : M.IsWhole) (X : s.Idx → Elt F e)
    (B : LoadRect s) : View.readAt (Elt F) M.view B (h.unread X) = fun y => X (B.idx y) :=
  funext fun y => h.readAt_unread X B y

/-- The first scratch with a block of weights stored at an offset. -/
def put (f : Vec F S8x16384 .f32) (off : Fin 2 → ℕ) (h : ∀ a, off a + S8x1024.size a ≤ S8x16384.size a)
    (w : Vec F S8x1024 .f32) : Vec F S8x16384 .f32 :=
  scr0.view.read (Elt F) (scr0.view.writes (Elt F) f [⟨Rect.unit (s := S8x16384) off S8x1024.size h, w⟩])

/-- The block of the first scratch at an offset. -/
def get (f : Vec F S8x16384 .f32) (off : Fin 2 → ℕ) (h : ∀ a, off a + S8x1024.size a ≤ S8x16384.size a) :
    Vec F S8x1024 .f32 :=
  fun y => f ((Rect.unit (s := S8x16384) off S8x1024.size h).toLoadRect.idx y)

/-- The flag after a block: the block's own at the first block, the larger of the two at a later one. -/
def flagged (j : BitVec 32) (p a : BitVec 32) : BitVec 32 :=
  Scalar.select (Scalar.cmpi .eq j 0#32) p (Scalar.maxsi a p)

theorem off_zero : (![0, 0] : Fin 2 → ℕ) = fun _ => 0 := by decide

theorem whole_1024x2048 (x : Vec F S1024x2048 .f32) :
    (fun y => x ((Rect.unit (s := S1024x2048) ![0, 0] S1024x2048.size inb_S1024x2048_S1024x2048_0_0).toLoadRect.idx y)) = x :=
  View.ld_unit_zero off_zero _ x
theorem whole_512x2048 (x : Vec F S512x2048 .f32) :
    (fun y => x ((Rect.unit (s := S512x2048) ![0, 0] S512x2048.size inb_S512x2048_S512x2048_0_0).toLoadRect.idx y)) = x :=
  View.ld_unit_zero off_zero _ x

/-- What one store through a rectangle of the whole shape at zero offsets leaves. -/
theorem read_store {sp : Space} {s : Shape} {e : EltTy} (v : View sig .tc sp s e) (f : v.ty.Contents (Elt F)) {off : Fin s.rank → ℕ}
    (hz : off = fun _ => 0) (h : ∀ a, off a + s.size a ≤ s.size a) (w : s.Idx → Elt F e) :
    v.read (Elt F) (v.writes (Elt F) f [⟨Rect.unit (s := s) off s.size h, w⟩]) = w := by
  subst hz; exact View.read_writes_whole v f w

section Run

variable (i : grid0.Coords)
  (M2 : Memref sig .tc .vmem S1024x2048 .f32) (h2 : M2.IsWhole) (M3 : Memref sig .tc .vmem S512x2048 .f32) (h3 : M3.IsWhole)
  (M4 : Memref sig .tc .vmem S2048x512 .f32) (h4 : M4.IsWhole) (M5 : Memref sig .tc .vmem S8x1024 .f32) (h5 : M5.IsWhole)

theorem run_fill (𝒱 : Variants) (c : Dev nD) (hc1 : k0_cond1 i = 1#1) (hc2 : ¬ k0_cond2 i = 1#1)
    (x : Vec F S1024x2048 .f32) (wt : Vec F S512x2048 .f32) (wm : Vec F S2048x512 .f32) (o : Vec F S8x1024 .f32)
    (f : Vec F S8x16384 .f32) (a : Elt F .i32) (E : Set ℕ) (K : PUnit → sProp 𝕄) :
    iprop(owns (c : Thread nD τ) M2 fullShare x ∗ owns (c : Thread nD τ) M3 fullShare wt ∗ owns (c : Thread nD τ) M4 fullShare wm
        ∗ owns (c : Thread nD τ) M5 fullShare o ∗ owns (c : Thread nD τ) scr0 fullShare f
        ∗ owns (c : Thread nD τ) scr1 fullShare (fun _ => a)
        ∗ (iprop(owns (c : Thread nD τ) M2 fullShare x ∗ owns (c : Thread nD τ) M3 fullShare wt ∗ owns (c : Thread nD τ) M4 fullShare wm
            ∗ owns (c : Thread nD τ) M5 fullShare o
            ∗ owns (c : Thread nD τ) scr0 fullShare (put f (k0_off1 i) (k0_off1_inb i hc1) (weights x wt wm))
            ∗ owns (c : Thread nD τ) scr1 fullShare (fun _ => flagged (BitVec.ofNat 32 (i 1).val) (passes x wt wm) a)) -∗ K ⟨⟩))
      ⊢ wp frame (wpE (defs₀ (F := F)) 𝒱 (c : Thread nD τ) none) E
          (cc0__router_body i M2 h2 M3 h3 M4 h4 M5 h5 scr0 (Memref.isWhole_whole _) scr1 (Memref.isWhole_whole _)) K := by
  simp only [cc0__router_body_eq_skeleton]
  unfold cc0__router_body_skel owns
  iintro ⟨⟨%f2, %e2, H2⟩, ⟨%f3, %e3, H3⟩, ⟨%f4, %e4, H4⟩, ⟨%f5, %e5, H5⟩, ⟨%f6, %e6, H6⟩, ⟨%f7, %e7, H7⟩, Hk⟩
  obtain rfl := h2.eq_unread e2; obtain rfl := h3.eq_unread e3; obtain rfl := h4.eq_unread e4
  obtain rfl : f6 = f := e6
  obtain rfl : f7 = fun _ => a := e7
  sl_exec (disch := first | sl_exact hc1 | sl_exact hc2)
  sl_step
  iapply Hk
  isplitl [H2]; · iexists _; isplitr; · ipureintro; exact e2
                  iexact H2
  isplitl [H3]; · iexists _; isplitr; · ipureintro; exact e3
                  iexact H3
  isplitl [H4]; · iexists _; isplitr; · ipureintro; exact e4
                  iexact H4
  isplitl [H5]; · iexists _; isplitr; · ipureintro; exact e5
                  iexact H5
  have hl : run_fill.sl.r_6 M2 h2 M3 h3 M4 h4 c x wt wm = logits x wt wm := by
    delta run_fill.sl.r_6 run_fill.sl.r run_fill.sl.r_1 run_fill.sl.r_2 run_fill.sl.r_3 run_fill.sl.r_4 run_fill.sl.r_5
    simp only [readAt_whole, whole_1024x2048, whole_512x2048]
    rfl
  have hp : run_fill.sl.r_7 M2 h2 M3 h3 M4 h4 c x wt wm = peaks x wt wm := by
    delta run_fill.sl.r_7 run_fill.sl.r run_fill.sl.r_1 run_fill.sl.r_2 run_fill.sl.r_3 run_fill.sl.r_4 run_fill.sl.r_5
    simp only [readAt_whole, whole_1024x2048, whole_512x2048]
    rfl
  isplitl [H6]
  · iexists _; isplitr
    swap; · iexact H6
    ipureintro
    rw [hl, hp]; rfl
  · iexists _; isplitr
    swap; · iexact H7
    ipureintro
    rw [read_store _ _ (by decide : (![0] : Fin 1 → ℕ) = fun _ => 0)]
    delta run_fill.sl.v114 run_fill.sl.v113 run_fill.sl.v110 run_fill.sl.v109
    rw [hl, hp]; rfl

theorem run_read (𝒱 : Variants) (c : Dev nD) (hc1 : ¬ k0_cond1 i = 1#1) (hc2 : k0_cond2 i = 1#1)
    (x : Vec F S1024x2048 .f32) (wt : Vec F S512x2048 .f32) (wm : Vec F S2048x512 .f32) (o : Vec F S8x1024 .f32)
    (f : Vec F S8x16384 .f32) (a : Elt F .i32) (E : Set ℕ) (K : PUnit → sProp 𝕄) :
    iprop(owns (c : Thread nD τ) M2 fullShare x ∗ owns (c : Thread nD τ) M3 fullShare wt ∗ owns (c : Thread nD τ) M4 fullShare wm
        ∗ owns (c : Thread nD τ) M5 fullShare o ∗ owns (c : Thread nD τ) scr0 fullShare f
        ∗ owns (c : Thread nD τ) scr1 fullShare (fun _ => a)
        ∗ (iprop(owns (c : Thread nD τ) M2 fullShare x ∗ owns (c : Thread nD τ) M3 fullShare wt ∗ owns (c : Thread nD τ) M4 fullShare wm
            ∗ owns (c : Thread nD τ) M5 fullShare (routed (get f (k0_off2 i) (k0_off2_inb i hc2)) a)
            ∗ owns (c : Thread nD τ) scr0 fullShare f
            ∗ owns (c : Thread nD τ) scr1 fullShare (fun _ => a)) -∗ K ⟨⟩))
      ⊢ wp frame (wpE (defs₀ (F := F)) 𝒱 (c : Thread nD τ) none) E
          (cc0__router_body i M2 h2 M3 h3 M4 h4 M5 h5 scr0 (Memref.isWhole_whole _) scr1 (Memref.isWhole_whole _)) K := by
  simp only [cc0__router_body_eq_skeleton]
  unfold cc0__router_body_skel owns
  iintro ⟨⟨%f2, %e2, H2⟩, ⟨%f3, %e3, H3⟩, ⟨%f4, %e4, H4⟩, ⟨%f5, %e5, H5⟩, ⟨%f6, %e6, H6⟩, ⟨%f7, %e7, H7⟩, Hk⟩
  obtain rfl : f6 = f := e6
  obtain rfl : f7 = fun _ => a := e7
  sl_exec (disch := first | sl_exact hc1 | sl_exact hc2)
  sl_step
  iapply Hk
  isplitl [H2]; · iexists _; isplitr; · ipureintro; exact e2
                  iexact H2
  isplitl [H3]; · iexists _; isplitr; · ipureintro; exact e3
                  iexact H3
  isplitl [H4]; · iexists _; isplitr; · ipureintro; exact e4
                  iexact H4
  isplitl [H5]
  · iexists _; isplitr
    swap; · iexact H5
    ipureintro
    rw [read_store _ _ off_zero]
    delta run_read.sl.r_1 run_read.sl.r_2 run_read.sl.r_3 run_read.sl.r
    rfl
  isplitl [H6]
  · iexists _; isplitr
    swap; · iexact H6
    ipureintro; rfl
  · iexists _; isplitr
    swap; · iexact H7
    ipureintro; rfl

end Run

end Cert.KernelIdeal.Router

end
-- ==== Proof.Ideal.Region.lean ====
/-
  The kernel's region, point by point. Between points the first scratch holds, in the columns of every block of rows met so
  far, that block's weights, and the second the flag of those blocks; the result's staging buffer, which every point writes
  back, holds a block's result from point 16 on and anything before.
-/
module

public import proofs.«01_k».proof.Proof.Ideal.Body
public import Idealize.ShloMosaic.Lib.Pipeline.DatRel
public import Idealize.ShloMosaic.Lib.Pipeline.ArrRel

@[expose] public section

noncomputable section

namespace Cert.KernelIdeal.Router

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligationRel)

variable {F : FTy → Type} [FloatOps F]

local notation "𝕄" => MT nD τ sig Unit (Elt F) ℕ (UR sig nD τ) ℕ

set_option maxRecDepth 16384

/-! ## The columns of a block -/

/-- Where block `j`'s columns begin in the first scratch. -/
def colOff (j : Fin 16) : Fin 2 → ℕ := ![0, 1024 * j.val]

theorem colOff_inb (j : Fin 16) : ∀ a, colOff j a + S8x1024.size a ≤ S8x16384.size a := by revert j; decide

theorem get_congr (f : Vec F S8x16384 .f32) {off off' : Fin 2 → ℕ} (e : off = off') (h h') : get f off h = get f off' h' := by
  subst e; rfl
theorem put_congr (f : Vec F S8x16384 .f32) {off off' : Fin 2 → ℕ} (e : off = off') (h h') (w : Vec F S8x1024 .f32) :
    put f off h w = put f off' h' w := by
  subst e; rfl

theorem get_put_self (f : Vec F S8x16384 .f32) (off : Fin 2 → ℕ) (h) (w : Vec F S8x1024 .f32) :
    get (put f off h w) off h = w :=
  funext fun y => View.read_writes_cons_emb scr0.view f (Rect.unit (s := S8x16384) off S8x1024.size h) w [] y

theorem put_miss (f : Vec F S8x16384 .f32) (off : Fin 2 → ℕ) (h) (w : Vec F S8x1024 .f32) (y : S8x16384.Idx)
    (hy : (y (1 : Fin 2)).val < off 1 ∨ off 1 + 1024 ≤ (y (1 : Fin 2)).val) : put f off h w y = f y :=
  View.read_writes_cons_miss_of_axis scr0.view f ⟨Rect.unit (s := S8x16384) off S8x1024.size h, w⟩ [] y (1 : Fin 2) (off 1) 1024
    rfl rfl rfl hy

theorem idx_col (off : Fin 2 → ℕ) (h : ∀ a, off a + S8x1024.size a ≤ S8x16384.size a) (y : S8x1024.Idx) :
    (((Rect.unit (s := S8x16384) off S8x1024.size h).toLoadRect.idx y) (1 : Fin 2)).val = off 1 + (y (1 : Fin 2)).val := by
  show off 1 + 1 * (y (1 : Fin 2)).val = _
  rw [Nat.one_mul]

theorem get_put_of_ne (f : Vec F S8x16384 .f32) (j k : Fin 16) (hjk : j ≠ k) (w : Vec F S8x1024 .f32) :
    get (put f (colOff k) (colOff_inb k) w) (colOff j) (colOff_inb j) = get f (colOff j) (colOff_inb j) := by
  funext y
  refine put_miss f _ _ w _ ?_
  rw [idx_col]
  have hy : (y (1 : Fin 2)).val < 1024 := (y (1 : Fin 2)).isLt
  have hne : j.val ≠ k.val := fun e => hjk (Fin.ext e)
  show 1024 * j.val + (y (1 : Fin 2)).val < 1024 * k.val ∨ 1024 * k.val + 1024 ≤ 1024 * j.val + (y (1 : Fin 2)).val
  rcases Nat.lt_or_gt_of_ne hne with h | h
  · left; omega
  · right; omega

/-! ## The two phases -/

theorem N_eq : cfg0.N = 32 := N_0

/-- The point of phase 0 that meets block `j`. -/
def pt (j : Fin 16) : Fin cfg0.N := ⟨j.val, by rw [N_eq]; omega⟩

theorem fill_cond1 : ∀ t : Fin grid0.N, t.val < 16 → k0_cond1 (grid0.coords t) = 1#1 := by decide +kernel
theorem fill_cond2 : ∀ t : Fin grid0.N, t.val < 16 → ¬ k0_cond2 (grid0.coords t) = 1#1 := by decide +kernel
theorem read_cond1 : ∀ t : Fin grid0.N, ¬ t.val < 16 → ¬ k0_cond1 (grid0.coords t) = 1#1 := by decide +kernel
theorem read_cond2 : ∀ t : Fin grid0.N, ¬ t.val < 16 → k0_cond2 (grid0.coords t) = 1#1 := by decide +kernel
theorem fill_row : ∀ t : Fin grid0.N, t.val < 16 → ((grid0.coords t) 1).val = t.val := by decide +kernel
theorem fill_off : ∀ t : Fin grid0.N, ∀ h : t.val < 16, k0_off1 (grid0.coords t) = colOff ⟨t.val, h⟩ := by decide +kernel
theorem read_off : ∀ t : Fin grid0.N, ∀ h : t.val - 16 < 16, ¬ t.val < 16 → k0_off2 (grid0.coords t) = colOff ⟨t.val - 16, h⟩ := by
  decide +kernel

/-! ## The proof data -/

variable (m : (ℓ : Loc nD τ sig) → Buf (Elt F) ℓ)

/-- Block `j`'s weights and flag. -/
def blkW (c : Dev nD) (j : Fin 16) : Vec F S8x1024 .f32 :=
  weights (iblk m c 0 (pt j)) (iblk m c 1 (pt j)) (iblk m c 2 (pt j))
def blkP (c : Dev nD) (j : Fin 16) : BitVec 32 :=
  passes (iblk m c 0 (pt j)) (iblk m c 1 (pt j)) (iblk m c 2 (pt j))

/-- The flag of the first `n` blocks. -/
def flagAt (c : Dev nD) : ℕ → BitVec 32
  | 0 => 0#32
  | n + 1 => if h : n < 16 then flagged (BitVec.ofNat 32 n) (blkP m c ⟨n, h⟩) (flagAt c n) else flagAt c n

/-- Block `j`'s result. -/
def blkOut (c : Dev nD) (j : Fin 16) : Vec F S8x1024 .f32 := routed (blkW m c j) (flagAt m c 16)

/-- The first scratch holds the weights of every block below `n`. -/
def Filled (c : Dev nD) (n : ℕ) (f : Vec F S8x16384 .f32) : Prop :=
  ∀ j : Fin 16, j.val < n → get f (colOff j) (colOff_inb j) = blkW m c j

theorem Filled.put {c : Dev nD} {n : ℕ} {f : Vec F S8x16384 .f32} (hf : Filled m c n f) (hn : n < 16) :
    Filled m c (n + 1) (put f (colOff ⟨n, hn⟩) (colOff_inb _) (blkW m c ⟨n, hn⟩)) := fun j hj => by
  by_cases h : j = ⟨n, hn⟩
  · subst h; exact get_put_self _ _ _ _
  · rw [get_put_of_ne f j ⟨n, hn⟩ h]
    have hne : j.val ≠ n := fun e => h (Fin.ext e)
    exact hf j (by omega)

theorem Filled.mono {c : Dev nD} {n n' : ℕ} {f : Vec F S8x16384 .f32} (hf : Filled m c n f) (hn : 16 ≤ n) : Filled m c n' f :=
  fun j _ => hf j (by omega)

theorem flagged_zero (p a : BitVec 32) : flagged (BitVec.ofNat 32 0) p a = p := by
  unfold flagged Scalar.select Scalar.cmpi IntOp.cmpi
  exact if_pos (by simp only [beq_self_eq_true, BitVec.ofBool_true])

theorem flagAt_succ (c : Dev nD) (n : ℕ) (hn : n < 16) (a : BitVec 32) (ha : n ≠ 0 → a = flagAt m c n) :
    flagged (BitVec.ofNat 32 n) (blkP m c ⟨n, hn⟩) a = flagAt m c (n + 1) := by
  rw [show flagAt m c (n + 1) = flagged (BitVec.ofNat 32 n) (blkP m c ⟨n, hn⟩) (flagAt m c n) by rw [flagAt]; exact dif_pos hn]
  by_cases h : n = 0
  · subst h; rw [flagged_zero, flagged_zero]
  · rw [ha h]

theorem flagAt_ge (c : Dev nD) (n : ℕ) (hn : 16 ≤ n) : flagAt m c n = flagAt m c 16 := by
  induction n with
  | zero => omega
  | succ n ih =>
    by_cases h : n = 15
    · rw [h]
    · rw [flagAt, dif_neg (by omega), ih (by omega)]

/-- Between points: the two scratches after `n` points, and the pseudo-random register. -/
def inv (c : Dev nD) (n : ℕ) : sProp 𝕄 :=
  iprop(∃ f a, ⌜Filled m c n f ∧ (n ≠ 0 → a = flagAt m c n)⌝ ∗ owns (c : Thread nD τ) scr0 fullShare f
    ∗ owns (c : Thread nD τ) scr1 fullShare (fun _ => a) ∗ ∃ r, prngReg c r)

/-- The exact part of the proof data: each input's staging buffer is left holding its block. -/
def dat (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => blkW m c 0
  Φ t := inv m c t.val
  q _ := fullShare
  owed _ := 0

/-- The result's window is the one held to a predicate: -/
def isRes (w : Fin cfg0.W) : Bool := w == (3 : Fin 4)
/-- from point 16 on, the block that the point writes back is the block's result. -/
def Res (c : Dev nD) : (w : Fin cfg0.W) → Fin cfg0.N → ((cfg0.win w).block.Idx → Elt F (cfg0.win w).elt) → Prop
  | ⟨3, _⟩, t, X => ∀ j : Fin 16, t.val = 16 + j.val → X = blkOut m c j
  | _, _, _ => True

/-- The proof data. -/
def rdat (c : Dev nD) : RDat τ (Elt F) Unit ℕ (UR sig nD τ) ℕ cfg0 c := (dat m c).toRRel isRes (Res m c)

theorem dat_A (c : Dev nD) (w : Fin cfg0.W) : (dat m c).A w = V m c (Pipeline.arrRef spec0 w) := rfl
theorem before0 (c : Dev nD) (t : Fin cfg0.N) (d) : (dat m c).before 0 t d = iblk m c 0 t :=
  before0_0_of m (dat m c) (dat_A m c 0) (fun _ => rfl) t d
theorem before1 (c : Dev nD) (t : Fin cfg0.N) (d) : (dat m c).before 1 t d = iblk m c 1 t :=
  before0_1_of m (dat m c) (dat_A m c 1) (fun _ => rfl) t d
theorem before2 (c : Dev nD) (t : Fin cfg0.N) (d) : (dat m c).before 2 t d = iblk m c 2 t :=
  before0_2_of m (dat m c) (dat_A m c 2) (fun _ => rfl) t d

/-! ## A point of the region -/

/-- What a point hands the body, and what it takes back. -/
def pre (c : Dev nD) (t : Fin cfg0.N) : sProp 𝕄 :=
  iprop(inv m c t.val
    ∗ owns (c : Thread nD τ) (st0_0 t) fullShare (iblk m c 0 t) ∗ owns (c : Thread nD τ) (st0_1 t) fullShare (iblk m c 1 t)
    ∗ owns (c : Thread nD τ) (st0_2 t) fullShare (iblk m c 2 t) ∗ ∃ Y, owns (c : Thread nD τ) (st0_3 t) fullShare Y)
def post (c : Dev nD) (t : Fin cfg0.N) : sProp 𝕄 :=
  iprop(inv m c (t.val + 1)
    ∗ owns (c : Thread nD τ) (st0_0 t) fullShare (iblk m c 0 t) ∗ owns (c : Thread nD τ) (st0_1 t) fullShare (iblk m c 1 t)
    ∗ owns (c : Thread nD τ) (st0_2 t) fullShare (iblk m c 2 t)
    ∗ ∃ X, ⌜Res m c 3 t X⌝ ∗ owns (c : Thread nD τ) (st0_3 t) fullShare X)

theorem point_fill (𝒱 : Variants) (c : Dev nD) (t : Fin cfg0.N) (ht : t.val < 16) :
    pre m c t ⊢ wp frame (wpE (defs₀ (F := F)) 𝒱 (c : Thread nD τ) none) Set.univ (bodyAt0 t) (fun _ => post m c t) := by
  have hpt : pt ⟨t.val, ht⟩ = t := rfl
  have hoff := fill_off t ht
  unfold pre post inv bodyAt0
  iintro ⟨⟨%f, %a, %hfa, H6, H7, Hr⟩, H0, H1, H2, ⟨%Y, H3⟩⟩
  iapply (run_fill (grid0.coords t) _ _ _ _ _ _ _ _ 𝒱 c (fill_cond1 t ht) (fill_cond2 t ht) (iblk m c 0 t) (iblk m c 1 t) (iblk m c 2 t) Y f a)
  isplitl [H0]; · iexact H0
  isplitl [H1]; · iexact H1
  isplitl [H2]; · iexact H2
  isplitl [H3]; · iexact H3
  isplitl [H6]; · iexact H6
  isplitl [H7]; · iexact H7
  iintro ⟨H0, H1, H2, H3, H6, H7⟩
  isplitl [H6 H7 Hr]
  · iexists _, _
    isplitr
    swap
    · isplitl [H6]; · iexact H6
      isplitl [H7]; · iexact H7
      iexact Hr
    ipureintro
    refine ⟨?_, fun _ => ?_⟩
    · rw [put_congr f hoff _ (colOff_inb _)]
      exact hfa.1.put m ht
    · rw [fill_row t ht]
      exact flagAt_succ m c t.val ht a hfa.2
  isplitl [H0]; · iexact H0
  isplitl [H1]; · iexact H1
  isplitl [H2]; · iexact H2
  iexists Y
  isplitr
  · ipureintro; intro j hj; omega
  · iexact H3

theorem point_read (𝒱 : Variants) (c : Dev nD) (t : Fin cfg0.N) (ht : ¬ t.val < 16) :
    pre m c t ⊢ wp frame (wpE (defs₀ (F := F)) 𝒱 (c : Thread nD τ) none) Set.univ (bodyAt0 t) (fun _ => post m c t) := by
  have hlt : t.val - 16 < 16 := by have := Nat.lt_of_lt_of_eq t.isLt N_eq; omega
  have hoff := read_off t hlt ht
  unfold pre post inv bodyAt0
  iintro ⟨⟨%f, %a, %hfa, H6, H7, Hr⟩, H0, H1, H2, ⟨%Y, H3⟩⟩
  iapply (run_read (grid0.coords t) _ _ _ _ _ _ _ _ 𝒱 c (read_cond1 t ht) (read_cond2 t ht) (iblk m c 0 t) (iblk m c 1 t) (iblk m c 2 t) Y f a)
  isplitl [H0]; · iexact H0
  isplitl [H1]; · iexact H1
  isplitl [H2]; · iexact H2
  isplitl [H3]; · iexact H3
  isplitl [H6]; · iexact H6
  isplitl [H7]; · iexact H7
  iintro ⟨H0, H1, H2, H3, H6, H7⟩
  isplitl [H6 H7 Hr]
  · iexists f, a
    isplitr
    · ipureintro
      refine ⟨hfa.1.mono m (by omega), fun _ => ?_⟩
      rw [hfa.2 (by omega), flagAt_ge m c t.val (by omega), flagAt_ge m c (t.val + 1) (by omega)]
    · isplitl [H6]; · iexact H6
      isplitl [H7]; · iexact H7
      iexact Hr
  isplitl [H0]; · iexact H0
  isplitl [H1]; · iexact H1
  isplitl [H2]; · iexact H2
  iexists _
  isplitr
  swap; · iexact H3
  ipureintro
  intro j hj
  have hjt : (⟨t.val - 16, hlt⟩ : Fin 16) = j := Fin.ext (by simp only; omega)
  rw [get_congr f hoff _ (colOff_inb _), hfa.1 ⟨t.val - 16, hlt⟩ (by simp only; omega), hjt,
    hfa.2 (by omega), flagAt_ge m c t.val (by omega)]
  rfl

theorem point (𝒱 : Variants) (c : Dev nD) (t : Fin cfg0.N) :
    pre m c t ⊢ wp frame (wpE (defs₀ (F := F)) 𝒱 (c : Thread nD τ) none) Set.univ (bodyAt0 t) (fun _ => post m c t) := by
  by_cases ht : t.val < 16
  · exact point_fill m 𝒱 c t ht
  · exact point_read m 𝒱 c t ht

theorem defs₀_row (t : Fin cfg0.N) :
    defs₀ (F := F) .tc cfg0.body (cfg0.bodyArgs t (cfg0.slots t)) = bodyAt0 t := by
  unfold defs₀; rw [Defs.onTc_tc]

theorem obligation (𝒱 : Variants) (c : Dev nD) :
    BodyObligationRel (dat m c) (defs₀ (F := F)) 𝒱 () Set.univ isRes (Res m c) := fun t => by
  rw [bigSep_W0, bigSep_W0, defs₀_row]
  have hs : iprop(pre m c t ∗ (dat m c).owesAt () t.castSucc)
      ⊢ wp frame (wpE (defs₀ (F := F)) 𝒱 (c : Thread nD τ) none) Set.univ (bodyAt0 t)
          (fun _ => iprop(post m c t ∗ (dat m c).owesAt () t.castSucc)) :=
    (sep_mono_left (point m 𝒱 c t)).trans (wp_frame_r _ _ _)
  refine triple_restated hs rfl ?_ fun _ => ?_
  · show iprop(inv m c t.val ∗ (dat m c).owesAt () t.castSucc
        ∗ (∃ d, owns (c : Thread nD τ) (st0_0 t) fullShare ((dat m c).before 0 t d))
        ∗ (∃ d, owns (c : Thread nD τ) (st0_1 t) fullShare ((dat m c).before 1 t d))
        ∗ (∃ d, owns (c : Thread nD τ) (st0_2 t) fullShare ((dat m c).before 2 t d))
        ∗ (∃ Y, ⌜((dat m c).toRRel isRes (Res m c)).Finds 3 t Y⌝ ∗ owns (c : Thread nD τ) (st0_3 t) fullShare Y)) ⊢ _
    unfold pre
    iintro ⟨Hi, Ho, ⟨%d0, H0⟩, ⟨%d1, H1⟩, ⟨%d2, H2⟩, ⟨%Y, -, H3⟩⟩
    rw [before0, before1, before2]
    isplitr [Ho]
    · isplitl [Hi]; · iexact Hi
      isplitl [H0]; · iexact H0
      isplitl [H1]; · iexact H1
      isplitl [H2]; · iexact H2
      iexists Y; iexact H3
    · iexact Ho
  · show _ ⊢ iprop(inv m c (t.val + 1) ∗ (dat m c).owesAt () t.castSucc
        ∗ owns (c : Thread nD τ) (st0_0 t) fullShare (iblk m c 0 t)
        ∗ owns (c : Thread nD τ) (st0_1 t) fullShare (iblk m c 1 t)
        ∗ owns (c : Thread nD τ) (st0_2 t) fullShare (iblk m c 2 t)
        ∗ (∃ X, ⌜Res m c 3 t X⌝ ∗ owns (c : Thread nD τ) (st0_3 t) fullShare X))
    unfold post
    iintro ⟨⟨Hi, H0, H1, H2, H3⟩, Ho⟩
    isplitl [Hi]; · iexact Hi
    isplitl [Ho]; · iexact Ho
    isplitl [H0]; · iexact H0
    isplitl [H1]; · iexact H1
    isplitl [H2]; · iexact H2
    iexact H3

end Cert.KernelIdeal.Router

end
-- ==== Proof.Ideal.Launch.lean ====
/-
  The launch: from any memory with no signal pending the program runs to its end; the three arguments are as launched, and
  the result is what the transposition after the region makes of an array that the region may leave.
-/
module

public import proofs.«01_k».proof.Proof.Ideal.Region
public import Idealize.ShloMosaic.Lib.Pipeline.FrameSuffix

@[expose] public section

noncomputable section

namespace Cert.KernelIdeal.Router

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline

variable {F : FTy → Type} [FloatOps F]

local notation "𝕄" => MT nD τ sig Unit (Elt F) ℕ (UR sig nD τ) ℕ

set_option maxRecDepth 16384

variable (m : (ℓ : Loc nD τ sig) → Buf (Elt F) ℓ) (ρ : Dev nD → PrngReg)

/-! ## Into and out of the region -/

theorem classInv_eq (c : Dev nD) : (ΦA spec0 c : sProp 𝕄)
    = iprop(((∃ f, owns (c : Thread nD τ) scr0 fullShare f) ∗ (∃ f, owns (c : Thread nD τ) scr1 fullShare f)) ∗ ∃ r, prngReg c r) := by
  unfold ΦA; rw [scopedRest0_eq]; simp only [owns_whole]; rfl

/-- The one index of the second scratch. -/
def ix1 : S1.Idx := fun a => ⟨0, by revert a; decide⟩
theorem ix1_unique (i : S1.Idx) : ix1 = i :=
  funext fun a => Fin.ext (by
    have h1 : ∀ a, S1.size a = 1 := by decide
    exact (Nat.lt_one_iff.mp (Nat.lt_of_lt_of_eq (i a).isLt (h1 a))).symm)

theorem enter (c : Dev nD) : (ΦA spec0 c : sProp 𝕄) ⊢ inv m c 0 := by
  rw [classInv_eq]; unfold inv
  iintro ⟨⟨⟨%f, H6⟩, ⟨%g, H7⟩⟩, Hr⟩
  iexists f, (g ix1)
  isplitr
  · ipureintro; exact ⟨fun j hj => absurd hj (Nat.not_lt_zero _), fun h => absurd rfl h⟩
  isplitl [H6]; · iexact H6
  isplitl [H7]
  · rw [show (fun _ => g ix1) = g from funext fun i => congrArg g (ix1_unique i)]
    iexact H7
  · iexact Hr

theorem leave (c : Dev nD) (n : ℕ) : inv m c n ⊢ (ΦA spec0 c : sProp 𝕄) := by
  rw [classInv_eq]; unfold inv
  iintro ⟨%f, %a, -, H6, H7, Hr⟩
  isplitr [Hr]
  · isplitl [H6]; · iexists _; iexact H6
    iexists _; iexact H7
  · iexact Hr

/-! ## The run -/

/-- What the bypassing buffers hold at the end, when the region leaves the arrays at `A`. -/
abbrev final (c : Dev nD) (A : (w : Fin cfg0.W) → Buf (Elt F) ((cfg0.win w).arr.view.loc (c : Thread nD τ))) (b : Ref sig .tc) :
    Buf (Elt F) ((c : Thread nD τ).loc b) :=
  StableHlo.after ([hostOps1] : List (List (HloOp τ sig (Elt F)))).flatten (withArrays spec0 c (V0 m c) A) (Proc.devRef .tc b)

/-- The run's post: the arrays at contents that the region may leave, every bypassing buffer at the last lines' outcome on such. -/
def Post (r : PUnit × MemSt nD τ sig (Elt F)) : Prop :=
  ∀ c : Dev nD, (∀ w, (rdat m c).ArrAt w cfg0.N (r.2.mem ((cfg0.win w).arr.view.loc (c : Thread nD τ))))
    ∧ ∃ A, (∀ w, (rdat m c).ArrAt w cfg0.N (A w))
      ∧ ∀ b ∈ restRefsP sig Prefetch.none spec0, r.2.mem ((c : Thread nD τ).loc b) = final m c A b

local notation "pcs" => fun q => Cfg.toPCfg (Val := Elt F) (cfgs q)
local notation "adm" => fun q => Cfg.toPCfg_adm (Val := Elt F) (cfgs q)

theorem arrays_open (c : Dev nD) : ((RDat.familyOf pcs adm 0 (rdat m) 0 c).arraysAt cfg0.N : sProp 𝕄)
    ⊢ iprop(∃ A, ⌜∀ w, (rdat m c).ArrAt w cfg0.N (A w)⌝ ∗ (rdat m c).arrays A) := by
  rw [RDat.familyOf_self]; unfold RDat.arraysAt
  iintro Ha
  ihave Hb := (BI.bigSep_exists_pi Finset.univ (fun w G => iprop(⌜(rdat m c).ArrAt w cfg0.N G⌝
      ∗ (cfg0.win w).arr.view.loc (c : Thread nD τ) ↦[(cfg0.win w).arr.view.set]{(rdat m c).share w} G))) $$ Ha
  icases Hb with ⟨%A, Ha⟩
  ihave Hb := (BI.bigSep_pure_sep Finset.univ (fun w => (rdat m c).ArrAt w cfg0.N (A w))
      (fun w => (cfg0.win w).arr.view.loc (c : Thread nD τ) ↦[(cfg0.win w).arr.view.set]{(rdat m c).share w} A w)) $$ Ha
  icases Hb with ⟨%hA, Ha⟩
  iexists A; isplitr
  · ipureintro; exact fun w => hA w (Finset.mem_univ w)
  · unfold RDat.arrays; iexact Ha

theorem arrays_close (c : Dev nD) (A) (hA : ∀ w, (rdat m c).ArrAt w cfg0.N (A w)) :
    ((rdat m c).arrays A : sProp 𝕄) ⊢ (RDat.familyOf pcs adm 0 (rdat m) 0 c).arraysAt cfg0.N := by
  rw [RDat.familyOf_self]; unfold RDat.arraysAt RDat.arrays
  refine BI.bigSep_mono fun w _ => ?_
  show ((cfg0.win w).arr.view.loc (c : Thread nD τ) ↦[(cfg0.win w).arr.view.set]{(rdat m c).share w} A w : sProp 𝕄)
    ⊢ iprop(∃ G, ⌜(rdat m c).ArrAt w cfg0.N G⌝ ∗ (cfg0.win w).arr.view.loc (c : Thread nD τ) ↦[(cfg0.win w).arr.view.set]{(rdat m c).share w} G)
  iintro H; iexists (A w); isplitr
  · ipureintro; exact hA w
  · iexact H

theorem share_full (c : Dev nD) (w : Fin cfg0.W) : (rdat m c).share w = fullShare :=
  (dat m c).share_full (fun _ => rfl) w

theorem share_in (c : Dev nD) (w : Fin cfg0.W) (hw : (spec0 w).isOut = false) : (rdat m c).q w = shareOf spec0 w :=
  (rdat m c).q_eq_shareOf_of_share_full winFacts0.arr_inj (share_full m c) w hw

set_option backward.isDefEq.respectTransparency.types false in
theorem run : θ_run defs (onTc (τ := τ) (main (F := F))) (s₀ m ρ) (fun r => Post m r ∧ r.2.sem = fun _ => 0) := by
  classical
  have kit := (launch0.toP (Val := Elt F)).to₀
  exact RDat.θ_run_region_pf_tail_quiescent pcs adm (RDat.familyOf pcs adm 0 (rdat m)) () (kit.cellOf_inj adm) 0 kit.win
    (OwnSemFacts.none spec0) kit.pre emb₁ defs₀ Variants.none m ρ main (fun _ => chain ([hostOps1].map StableHlo.seq))
    (fun c => by rw [RDat.familyOf_self]; exact (obligation m Variants.none c).toRRel)
    kit.block_pos kit.arr_whole kit.stage_whole (fun c t => by rw [RDat.familyOf_self]; rfl)
    (G := fun _ => iprop(emp)) (u₀ := initOf (cells (pin pcs adm) (kit.cellOf_inj adm)) (launchToks (pin pcs adm) (kit.cellOf_inj adm)))
    (hu₀ := by
      iintro Hu; imodintro
      isplitl [Hu]
      · iapply (show (ownU _ : sProp 𝕄) ⊢ BI.own (emb₁ (initOf (cells (pin pcs adm) (kit.cellOf_inj adm))
          (launchToks (pin pcs adm) (kit.cellOf_inj adm)))) from .rfl); iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := fun c => by
      rw [RDat.familyOf_self]; exact (rdat m c).arrays_split_shared kit.sharedIn kit.arr_whole (share_in m c) (V m c) _ (fun _ => rfl))
    (hpf := fun _ k => k.elim0)
    (X := fun c => iprop(∃ r, prngReg c r)) (Y := fun c => iprop(∃ r, prngReg c r))
    (Z := fun c => unscopedRestP (Ix := Unit) (Name := ℕ) (U := UR sig nD τ) (Lvl := ℕ) Prefetch.none spec0 c (V m c))
    (Z' := fun c => iprop(∃ A, ⌜∀ w, (rdat m c).ArrAt w cfg0.N (A w)⌝
      ∗ unscopedRestP (Ix := Unit) (Name := ℕ) (U := UR sig nD τ) (Lvl := ℕ) Prefetch.none spec0 c (final m c A)))
    (hX := fun c => by
      iintro ⟨HU, -, -, Hp, -⟩; imodintro
      isplitl [Hp]; · iexists _; iexact Hp
      iexact HU)
    (hin := fun c => by
      rw [RDat.familyOf_self]
      exact (show _ ⊢ (ΦA spec0 c : sProp 𝕄) by
        unfold ΦA; iintro ⟨Hp, -, Hr⟩
        isplitl [Hr] <;> iassumption).trans (enter m c))
    (hout := fun c => by
      rw [RDat.familyOf_self]
      exact (leave m c _).trans (by
        rw [ownSems0_none]; unfold ΦA
        iintro ⟨Hr, Hp⟩
        isplitl [Hp]; · iexact Hp
        isplitr; · iempintro
        iexact Hr))
    (htail := fun c Q' => by
      iintro ⟨Hk, Hb, Ha, HZ⟩
      ihave Ha' := (arrays_open m c) $$ Ha
      icases Ha' with ⟨%A, %hA, Ha⟩
      have hB : (rdat m c).arrays A = arrBufs spec0 c (fun b => withArrays spec0 c (V0 m c) A (Proc.devRef .tc b)) :=
        ((rdat m c).arrBufs_eq_arrays kit.sharedIn kit.arr_whole (share_in m c) _ A fun w =>
          (withArrays_arr_shared spec0 c (V0 m c) A ((rdat m c).ArrAt_sharedIn kit.sharedIn (V0 m c) (fun _ => rfl) cfg0.N A hA) w).symm).symm
      iapply (tail_seqs_bufs_b pcs defs₀ Variants.none Prefetch.none spec0 c (V0 m c) A [hostOps1] sfx_sub sfx_fresh sfx_keeps Q')
      isplitl [Hk]
      · iintro ⟨Hb2, Ha2, Hu⟩
        iapply Hk
        isplitl [Hb2]; · iexact Hb2
        isplitl [Ha2]; · iapply (arrays_close m c A hA); iapply (Entails.of_eq hB.symm); iexact Ha2
        iexists A; isplitr
        · ipureintro; exact hA
        · iexact Hu
      · isplitl [Hb]; · iexact Hb
        isplitl [Ha]; · iapply (Entails.of_eq hB); iexact Ha
        iexact HZ)
    (QY := fun c s => ∃ A, (∀ w, (rdat m c).ArrAt w cfg0.N (A w))
      ∧ ∀ b ∈ restRefsP sig Prefetch.none spec0, s.mem ((c : Thread nD τ).loc b) = final m c A b)
    (hY := fun c s' => by
      iintro ⟨-, HZ, HSI⟩
      icases HZ with ⟨%A, %hA, HZ⟩
      unfold unscopedRestP
      ihave HZ' := (pointsTo_read_all (restRefsP sig Prefetch.none spec0) (fun b => (c : Thread nD τ).loc b) (final m c A) s') $$ [HZ HSI]
      · isplitl [HZ] <;> iassumption
      icases HZ' with ⟨%hZ, HSI⟩
      imodintro
      isplitr
      · ipureintro; exact ⟨A, hA, hZ⟩
      · iexact HSI)
    (hQ := fun s h hz => ⟨fun c => ⟨fun w => by simpa only [RDat.familyOf_self] using (h c).1 w, (h c).2.2⟩, hz⟩)

end Cert.KernelIdeal.Router

end
-- ==== Proof.Ideal.Final.lean ====
/-
  The end of the program. Phase 1 writes back every block of the result's array after phase 0 has, so the array ends at the
  blocks' results whatever phase 0 wrote; the program's result is that array transposed, and its arguments are as launched.
-/
module

public import proofs.«01_k».proof.Proof.Ideal.Launch

@[expose] public section

noncomputable section

namespace Cert.KernelIdeal.Router

open Cert.KernelIdeal Cert.KernelIdeal.Gen
open Idealize.ShloMosaic Idealize.ShloMosaic.TcCoe
open Idealize.SL Idealize.SL.Sem
open Idealize.ShloMosaic.Rounds
open Idealize.ShloMosaic.Pipeline

variable {F : FTy → Type} [FloatOps F]

set_option maxRecDepth 16384

variable (m : (ℓ : Loc nD τ sig) → Buf (Elt F) ℓ) (ρ : Dev nD → PrngReg)

/-! ## The result's array -/

theorem res_row : ∀ t : Fin grid0.N, cc0_transform_3 (grid0.coords t) = ![0, t.val % 16] := by decide +kernel

/-- The point of phase 1 that meets block `j`. -/
def pt' (j : Fin 16) : Fin cfg0.N := ⟨16 + j.val, by rw [N_eq]; omega⟩

theorem blk3_emb (t : Fin cfg0.N) (j : Fin 16) (hj : t.val % 16 = j.val) (y : S8x1024.Idx) :
    ((cfg0.win 3).blk t).view.emb y = (Rect.unit (s := S8x16384) (colOff j) S8x1024.size (colOff_inb j)).toLoadRect.idx y := by
  funext a
  refine Fin.ext ?_
  show cc0_transform_3 (grid0.coords t) a * S8x1024.size a + 1 * (y a).val = colOff j a + 1 * (y a).val
  rw [res_row t, hj]
  congr 1
  revert a; intro a
  fin_cases a
  · rfl
  · exact Nat.mul_comm _ _

theorem blk3_read (t : Fin cfg0.N) (j : Fin 16) (hj : t.val % 16 = j.val) (G : Vec F S8x16384 .f32) :
    ((cfg0.win 3).blk t).view.read (Elt F) G = get G (colOff j) (colOff_inb j) :=
  funext fun y => congrArg G (blk3_emb t j hj y)

theorem blk3_col (t : Fin cfg0.N) (j : Fin 16) (hj : t.val % 16 = j.val) (i : S8x16384.Idx)
    (hi : i ∈ ((cfg0.win 3).blk t).view.set) : (i (1 : Fin 2)).val / 1024 = j.val := by
  obtain ⟨y, -, hy⟩ := Finset.mem_map.mp hi
  have h := (blk3_emb t j hj y).symm.trans hy
  rw [← h, idx_col]
  have hlt : (y (1 : Fin 2)).val < 1024 := (y (1 : Fin 2)).isLt
  show (1024 * j.val + (y (1 : Fin 2)).val) / 1024 = j.val
  omega

/-- The array after the write-backs of the points below `n` holds the result of every block that one of them meets in phase 1. -/
theorem res_rows (c : Dev nD) : ∀ (n : ℕ) (G : Vec F S8x16384 .f32), (rdat m c).ArrAt 3 n G → n ≤ 32 →
    ∀ j : Fin 16, 16 + j.val < n → get G (colOff j) (colOff_inb j) = blkOut m c j := by
  intro n
  induction n with
  | zero => intro G _ _ j hj; omega
  | succ n ih =>
    intro G hG hn j hj
    have hlt : n < cfg0.N := by rw [N_eq]; omega
    have hs := (rdat m c).ArrAt_succ 3 ⟨n, hlt⟩
    rw [if_pos (flush0_3 ⟨n, hlt⟩)] at hs
    obtain ⟨G₀, X, hG₀, hX, rfl⟩ := (show (rdat m c).ArrStep 3 ⟨n, hlt⟩ ((rdat m c).ArrAt 3 n) G from hs ▸ hG)
    have hmod : (pt' j).val % 16 = j.val := by show (16 + j.val) % 16 = j.val; omega
    rw [← blk3_read (pt' j) j hmod]
    by_cases he : n = 16 + j.val
    · subst he
      rw [show (⟨16 + j.val, hlt⟩ : Fin cfg0.N) = pt' j from rfl] at hX ⊢
      refine (View.read_write_univ _ _).trans ?_
      exact (Dat.toRRel_leaves (dat m c) (fgt := isRes) (Rl := Res m c) (w := 3) rfl hX) j rfl
    · refine Eq.trans (b := ((cfg0.win 3).blk (pt' j)).view.read (Elt F) G₀) ?_
        ((blk3_read (pt' j) j hmod G₀).trans (ih G₀ hG₀ (by omega) j (by omega)))
      refine View.read_congr fun i hi => View.write_of_not_mem _ _ _ fun hi' => ?_
      have h1 := blk3_col (pt' j) j hmod i hi
      have h2 := blk3_col ⟨n, hlt⟩ ⟨n % 16, Nat.mod_lt _ (by decide)⟩ rfl i hi'
      simp only at h2
      omega

/-- The blocks' results laid side by side. -/
def resArr (c : Dev nD) : Vec F S8x16384 .f32 := fun i =>
  blkOut m c ⟨(i (1 : Fin 2)).val / 1024, by have h : (i (1 : Fin 2)).val < 16384 := (i (1 : Fin 2)).isLt; omega⟩
    (fun | ⟨0, _⟩ => i (0 : Fin 2) | ⟨1, _⟩ => ⟨(i (1 : Fin 2)).val % 1024, Nat.mod_lt _ (by decide)⟩)

theorem res_final (c : Dev nD) (G : Vec F S8x16384 .f32) (hG : (rdat m c).ArrAt 3 cfg0.N G) : G = resArr m c := by
  funext i
  have hlt : (i (1 : Fin 2)).val < 16384 := (i (1 : Fin 2)).isLt
  have h := congrFun (res_rows m c cfg0.N G hG (Nat.le_of_eq N_eq) ⟨(i (1 : Fin 2)).val / 1024, by omega⟩
    (by rw [N_eq]; show 16 + (i (1 : Fin 2)).val / 1024 < 32; omega))
    (fun | ⟨0, _⟩ => i (0 : Fin 2) | ⟨1, _⟩ => ⟨(i (1 : Fin 2)).val % 1024, Nat.mod_lt _ (by decide)⟩)
  refine Eq.trans (congrArg G ?_) h
  funext a
  refine Fin.ext ?_
  fin_cases a
  · show (i (0 : Fin 2)).val = 0 + 1 * (i (0 : Fin 2)).val; omega
  · show (i (1 : Fin 2)).val = 1024 * ((i (1 : Fin 2)).val / 1024) + 1 * ((i (1 : Fin 2)).val % 1024); omega

/-! ## What the run leaves -/

/-- The program's result. -/
def result (c : Dev nD) : Vec F S16384x8 .f32 := transpose S16384x8 [1, 0] (resArr m c) transposes_S8x16384_S16384x8_1_0

theorem final_arg (c : Dev nD) (A) (b : Ref sig .tc) (hb : b ≠ main_v4) (ha : ∀ w, Pipeline.arrRef spec0 w ≠ b) :
    final m c A b = V m c b := by
  unfold final
  rw [StableHlo.after_of_forall_not_mem (b := Proc.devRef .tc b) _ _ (List.forall_iff_forall_mem.mp (by
      simp only [hostOps1, List.flatten_cons, List.flatten_nil, List.append_nil, List.Forall, StableHlo.unary_writes, Finset.mem_singleton]
      exact StableHlo.devRef_ne_of_ne hb)),
    Pipeline.withArrays_of_ne _ c (V0 m c) _ b ha]

theorem final_v4 (c : Dev nD) (A) : final m c A main_v4 = transpose S16384x8 [1, 0] (A 3 : Vec F S8x16384 .f32) transposes_S8x16384_S16384x8_1_0 := by
  have h : withArrays spec0 c (V0 m c) A (Proc.devRef .tc main_v3) = A 3 :=
    withArrays_arr_shared spec0 c (V0 m c) A (fun w w' hne e => absurd (winFacts0.arr_inj e) hne) 3
  rw [← h]
  show StableHlo.after [StableHlo.unary main_v3 main_v4 _] _ _ = _
  rw [StableHlo.after_cons, StableHlo.after_nil]
  exact StableHlo.unary_result ..

theorem rest_arg1 : main_arg1 ∈ restRefsP sig Prefetch.none spec0 := by decide
theorem rest_arg2 : main_arg2 ∈ restRefsP sig Prefetch.none spec0 := by decide
theorem rest_v4 : main_v4 ∈ restRefsP sig Prefetch.none spec0 := by decide

theorem Post.reads {r : PUnit × MemSt nD τ sig (Elt F)} (h : Post m r) (c : Dev nD) :
    r.2.mem ((c.tc : Thread nD τ).loc main_v4) = result m c
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2) := by
  obtain ⟨hw, A, hA, hb⟩ := h c
  refine ⟨?_, ?_, ?_, ?_⟩
  · rw [hb main_v4 rest_v4, final_v4, res_final m c (A 3) (hA 3)]; rfl
  · have h0 := hw 0
    rw [RDat.ArrAt_in (rdat m c) 0 rfl] at h0
    exact h0.trans (V_main_arg0 m c)
  · rw [hb main_arg1 rest_arg1, final_arg m c A main_arg1 (by decide) (by decide), V_main_arg1]
  · rw [hb main_arg2 rest_arg2, final_arg m c A main_arg2 (by decide) (by decide), V_main_arg2]

/-- The program runs to its end with no signal pending and its arguments as launched. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c => (h.1.reads m c).2, h.2⟩) (run m ρ)

/-- And its result is `result`. -/
theorem value : θ_run defs (onTc (τ := τ) (main (F := F))) ⟨m, fun _ => 0, ρ⟩ (fun r => ∀ c : Dev nD,
      r.2.mem ((c.tc : Thread nD τ).loc main_v4) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => h.1.reads m c) (run m ρ)

end Cert.KernelIdeal.Router

end
-- ==== Proof.Bits.lean ====
/-
  The program as printed for bits is, but for the name of its namespace, the program read over the extended reals: its
  frame is the frame proved for that one over any reading of the floats.
-/
module

public import proofs.«01_k».proof.Kernel
public import proofs.«01_k».proof.Proof.Gen.Kernel
public import proofs.«01_k».proof.Proof.Gen.KernelIdeal
public import proofs.«01_k».proof.Proof.Ideal.Final

@[expose] public section

noncomputable section

namespace Cert.Kernel.Router

open Idealize.ShloMosaic Idealize.ShloMosaic.TcCoe
open Idealize.SL.Sem

variable {F : FTy → Type} [FloatOps F]

set_option maxRecDepth 16384

/-- The two body tables hold the same bodies. -/
theorem bodies_eq : Cert.Kernel.defs₀ (F := F) = Cert.KernelIdeal.defs₀ (F := F) := by
  unfold Cert.Kernel.defs₀ Cert.KernelIdeal.defs₀
  refine congrArg Defs.onTc ?_
  funext l a
  obtain ⟨n, h⟩ := l
  match n, h, a with
  | 0, _, (t, s) => rfl
  | n + 1, h, _ => exact absurd h (Nat.not_lt.2 (Nat.le_add_left _ _))

/-- So do the two tables with the pipelines' labels. -/
theorem tables_eq : Cert.Kernel.defs (F := F) = Cert.KernelIdeal.defs (F := F) :=
  congrArg (Pipeline.defs Cert.KernelIdeal.pcfgs) bodies_eq

open Cert.Kernel in
/-- The program runs to its end with no signal pending and its arguments as launched. -/
theorem frame (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) := by
  rw [tables_eq]
  exact Cert.KernelIdeal.Router.frame m ρ

end Cert.Kernel.Router

end
-- ==== Proof.Reference.Line.lean ====
/-
  The reference as a line of host operations, and its run: it ends with every buffer holding what the line leaves there.
-/
module

public import proofs.«01_k».proof.ReferenceIdeal
public import proofs.«01_k».proof.Proof.Gen.ReferenceIdeal
public import Idealize.ShloMosaic.Lib.StableHlo.RunHlo
public import Idealize.ShloMosaic.Lib.StableHlo.RunRead

@[expose] public section

noncomputable section

namespace Cert.ReferenceIdeal.Router

open Idealize.ShloMosaic Idealize.ShloMosaic.TcCoe Idealize.ShloMosaic.StableHlo
open Idealize.SL.Sem
open Cert.ReferenceIdeal

variable {F : FTy → Type} [FloatOps F]

set_option maxRecDepth 16384

/-- The reference's operations in order, with the fact that the program is the line of them. -/
def line : {ops : List (HloOp τ sig (Elt F)) // ∀ d : Dev nD, IsSeq (main (F := F) d) ops} :=
  by apply Subtype.mk; hlo_seq

/-- The operations alone. -/
def ops : List (HloOp τ sig (Elt F)) := line.1

theorem run (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc),
        r.2.mem ((d.tc : Thread nD τ).loc b) = after ops (launchContents m d) (Proc.devRef .tc b) :=
  run_hlo _ _ line.2 (by decide) (by decide) (by simp [ops, line])
    (by intro _ h; (repeat (cases h with | head => rfl | tail _ h => ?_)); exact nomatch h) m ρ

end Cert.ReferenceIdeal.Router

end
-- ==== Proof.Reference.Frame.lean ====
/-
  The reference ends with its arguments as launched and no signal pending.
-/
module

public import proofs.«01_k».proof.Proof.Reference.Line
public import Idealize.ShloMosaic.Lib.Claim

@[expose] public section

noncomputable section

namespace Cert.ReferenceIdeal.Router

open Idealize.ShloMosaic Idealize.ShloMosaic.TcCoe Idealize.ShloMosaic.StableHlo
open Idealize.SL.Sem
open Cert.ReferenceIdeal

variable {F : FTy → Type} [FloatOps F]

set_option maxRecDepth 16384

theorem after_arg0 (V : Valuation τ sig (Elt F)) : after ops V (Proc.devRef .tc main_arg0) = V (Proc.devRef .tc main_arg0) := by
  after_reads_simp

theorem after_arg1 (V : Valuation τ sig (Elt F)) : after ops V (Proc.devRef .tc main_arg1) = V (Proc.devRef .tc main_arg1) := by
  after_reads_simp

theorem after_arg2 (V : Valuation τ sig (Elt F)) : after ops V (Proc.devRef .tc main_arg2) = V (Proc.devRef .tc main_arg2) := by
  after_reads_simp

/-- The program runs to its end with no signal pending and its arguments as launched. -/
theorem frame (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_mono (run m ρ) fun r h =>
    ⟨fun c => ⟨(h c _).trans (after_arg0 _), (h c _).trans (after_arg1 _), (h c _).trans (after_arg2 _)⟩,
      sem_eq_zero_of_no_sems (by decide) r.2⟩

/-- Where the line leaves `out` in the result buffer, so does the program, with its arguments as launched. -/
theorem value (m : (ℓ : Loc nD τ sig) → Buf (Elt F) ℓ) (ρ : Dev nD → PrngReg)
    (out : (c : Dev nD) → Buf (Elt F) ((c.tc : Thread nD τ).loc main_v128))
    (hout : ∀ c, after ops (launchContents m c) (Proc.devRef .tc main_v128) = out c) :
    θ_run defs (onTc (τ := τ) (main (F := F))) ⟨m, fun _ => 0, ρ⟩ (fun r => ∀ c : Dev nD,
      r.2.mem ((c.tc : Thread nD τ).loc main_v128) = out c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  θ_run_mono (run m ρ) fun r h c =>
    ⟨(h c _).trans (hout c), (h c _).trans (after_arg0 _), (h c _).trans (after_arg1 _), (h c _).trans (after_arg2 _)⟩

end Cert.ReferenceIdeal.Router

end
-- ==== Proof.Value.Gate.lean ====
/-
  The routing rule on one row of eight weights: which expert comes first, which second (a tie goes to the smaller
  number), which of the two are kept, and the kept weights over their sum. Both programs are read down to this rule.
-/
module

public import Idealize.ShloMosaic.PureOps.Ideal
public import Idealize.ShloMosaic.PureOps.Ideal.Laws
public import Mathlib.Data.Finset.Max
public import Mathlib.Data.Prod.Lex
public import Mathlib.Data.Finset.Fold

@[expose] public section

noncomputable section

namespace Cert.Router

open Idealize.ShloMosaic
open scoped Classical

/-- The bit pattern of one eighth, read as a number: the threshold that a weight is to pass. -/
abbrev theta : EReal := Ideal.ofBits .f32 0x3E000000#32

/-- Expert `a` comes before expert `b`: a greater weight, or the same weight and a smaller number. -/
def Before (w : Fin 8 → EReal) (a b : Fin 8) : Prop := w b < w a ∨ (w a = w b ∧ a < b)

theorem Before.asymm {w : Fin 8 → EReal} {a b : Fin 8} (h : Before w a b) : ¬ Before w b a := by
  rintro (h' | ⟨e', l'⟩) <;> rcases h with h | ⟨e, l⟩
  · exact lt_asymm h h'
  · exact absurd h' (by rw [e]; exact lt_irrefl _)
  · exact absurd h (by rw [e']; exact lt_irrefl _)
  · exact lt_asymm l l'

theorem Before.le {w : Fin 8 → EReal} {a b : Fin 8} (h : Before w a b) : w b ≤ w a := by
  rcases h with h | ⟨e, -⟩
  · exact h.le
  · exact e.ge

/-- Among some experts one comes before all the others. -/
theorem exists_leader (w : Fin 8 → EReal) (s : Finset (Fin 8)) (hs : s.Nonempty) :
    ∃ f ∈ s, ∀ e ∈ s, e ≠ f → Before w f e := by
  obtain ⟨m, hm, hmax⟩ := s.exists_max_image w hs
  obtain ⟨f, hf, hmin⟩ := (s.filter fun e => w e = w m).exists_min_image id ⟨m, Finset.mem_filter.2 ⟨hm, rfl⟩⟩
  obtain ⟨hfs, hfm⟩ := Finset.mem_filter.1 hf
  refine ⟨f, hfs, fun e he hne => ?_⟩
  rcases lt_or_eq_of_le (hmax e he) with h | h
  · exact .inl (by rw [hfm]; exact h)
  · exact .inr ⟨hfm.trans h.symm, lt_of_le_of_ne (hmin e (Finset.mem_filter.2 ⟨he, h⟩)) hne.symm⟩

/-- The first expert, and the first of the others. -/
def first (w : Fin 8 → EReal) : Fin 8 := (exists_leader w Finset.univ ⟨0, Finset.mem_univ _⟩).choose

theorem erase_nonempty (f : Fin 8) : (Finset.univ.erase f).Nonempty := by
  by_cases h : f = 0
  · exact ⟨1, Finset.mem_erase.2 ⟨by rw [h]; decide, Finset.mem_univ _⟩⟩
  · exact ⟨0, Finset.mem_erase.2 ⟨fun e => h e.symm, Finset.mem_univ _⟩⟩

def second (w : Fin 8 → EReal) : Fin 8 := (exists_leader w (Finset.univ.erase (first w)) (erase_nonempty _)).choose

theorem first_before (w : Fin 8 → EReal) {e : Fin 8} (h : e ≠ first w) : Before w (first w) e :=
  (exists_leader w Finset.univ ⟨0, Finset.mem_univ _⟩).choose_spec.2 e (Finset.mem_univ _) h

theorem second_ne (w : Fin 8 → EReal) : second w ≠ first w :=
  (Finset.mem_erase.1 (exists_leader w (Finset.univ.erase (first w)) (erase_nonempty _)).choose_spec.1).1

theorem second_before (w : Fin 8 → EReal) {e : Fin 8} (h : e ≠ first w) (h' : e ≠ second w) : Before w (second w) e :=
  (exists_leader w (Finset.univ.erase (first w)) (erase_nonempty _)).choose_spec.2 e
    (Finset.mem_erase.2 ⟨h, Finset.mem_univ _⟩) h'

theorem eq_first {w : Fin 8 → EReal} {f : Fin 8} (h : ∀ e, e ≠ f → ¬ Before w e f) : f = first w := by
  by_contra hne
  exact h (first w) (fun e => hne e.symm) (first_before w hne)

theorem le_first (w : Fin 8 → EReal) (e : Fin 8) : w e ≤ w (first w) := by
  by_cases h : e = first w
  · rw [h]
  · exact (first_before w h).le

/-- Is expert `e` kept in a row of weights `w`, some weight anywhere passing the threshold or none? -/
def Kept (any : Prop) (w : Fin 8 → EReal) (e : Fin 8) : Prop :=
  (if any then theta < w e else e = first w) ∧ (e = first w ∨ e = second w)

/-- The kept weights, the others zero. -/
def kept (any : Prop) (w : Fin 8 → EReal) (e : Fin 8) : EReal := if Kept any w e then w e else 0

/-- A row's result: the kept weights over their sum, over one where the sum is zero. -/
def gate (any : Prop) (w : Fin 8 → EReal) (e : Fin 8) : EReal :=
  Ideal.div (kept any w e) (if ∑ x, kept any w x = 0 then 1 else ∑ x, kept any w x)

/-! ## The first expert as a maximum and the smallest number that attains it -/

theorem negInf : Ideal.ofBits .f32 0xFF800000#32 = (⊥ : EReal) := by simp [Ideal.ofBits, Ideal.ieee]

/-- The greatest weight is the first expert's. -/
theorem fold_max_eq (w : Fin 8 → EReal) : Finset.fold max ⊥ w Finset.univ = w (first w) :=
  le_antisymm (Finset.fold_max_le _ |>.2 ⟨bot_le, fun e _ => le_first w e⟩)
    (Finset.le_fold_max _ |>.2 (.inr ⟨first w, Finset.mem_univ _, le_rfl⟩))

theorem fold_min_bool : ∀ (q : Fin 8 → Bool) (f : Fin 8), q f = true → (∀ e, e < f → q e = false) →
    Finset.fold IntOp.minsi (2147483647#32) (fun x : Fin 8 => if q x = true then BitVec.ofNat 32 x.val else 8#32) Finset.univ
      = BitVec.ofNat 32 f.val := by decide +kernel

/-- The smallest number of an expert with a property, as a fold of words. -/
theorem fold_min_word (p : Fin 8 → Prop) [DecidablePred p] (f : Fin 8) (hf : p f) (hlt : ∀ e, e < f → ¬ p e) :
    Finset.fold IntOp.minsi (2147483647#32) (fun x : Fin 8 => if p x then BitVec.ofNat 32 x.val else 8#32) Finset.univ
      = BitVec.ofNat 32 f.val := by
  have h := fold_min_bool (fun x => decide (p x)) f (decide_eq_true hf) fun e he => decide_eq_false (hlt e he)
  simpa only [decide_eq_true_eq] using h

/-- The number of the first expert, found as the smallest among those of the greatest weight. -/
theorem first_word (w : Fin 8 → EReal) (inst : ∀ x, Decidable (w x = Finset.fold max ⊥ w Finset.univ)) :
    Finset.fold IntOp.minsi (2147483647#32)
      (fun x : Fin 8 => @ite _ (w x = Finset.fold max ⊥ w Finset.univ) (inst x) (BitVec.ofNat 32 x.val) 8#32) Finset.univ
      = BitVec.ofNat 32 (first w).val := by
  refine fold_min_word (fun x => w x = Finset.fold max ⊥ w Finset.univ) (first w) (fold_max_eq w).symm fun e he h => ?_
  rw [fold_max_eq] at h
  rcases first_before w he.ne with h' | ⟨-, h'⟩
  · exact absurd h' (by rw [h]; exact lt_irrefl _)
  · exact lt_asymm he h'

/-- With the first expert's weight put out, the first of what is left is the second, unless nothing is left. -/
theorem first_without (w : Fin 8 → EReal) {e : Fin 8} (he : theta < w e) :
    (e = first w ∨ e = first (fun x => if x = first w then ⊥ else w x)) ↔ (e = first w ∨ e = second w) := by
  generalize hv : (fun x => if x = first w then ⊥ else w x) = v
  have v1 : v (first w) = ⊥ := by rw [← hv]; exact if_pos rfl
  have v2 : ∀ x, x ≠ first w → v x = w x := fun x hx => by rw [← hv]; exact if_neg hx
  by_cases hf : first v = first w
  · have all : ∀ x, x ≠ first w → w x = ⊥ := fun x hx => by
      have := le_first v x
      rw [hf, v1, v2 x hx] at this
      exact le_bot_iff.1 this
    have : e = first w := by
      by_contra hne
      rw [all e hne] at he
      exact not_lt_bot he
    exact ⟨fun _ => .inl this, fun _ => .inl this⟩
  · have : first v = second w := by
      by_contra hne
      have h1 := second_before w hf hne
      have h2 := first_before v (e := second w) fun h => hne h.symm
      unfold Before at h2
      rw [v2 _ hf, v2 _ (second_ne w)] at h2
      exact h1.asymm h2
    rw [this]

/-! ## Words of experts and one-bit words -/

theorem cmpi_expert : ∀ e f : Fin 8, IntOp.cmpi .eq (BitVec.ofNat 32 e.val) (BitVec.ofNat 32 f.val) = BitVec.ofBool (decide (e = f)) := by
  decide +kernel

/-- The kernel's mask of one entry, of its four bits. -/
theorem mask_word (P E E' A : Prop) [Decidable P] [Decidable E] [Decidable E'] [Decidable A] (x y : EReal) :
    Scalar.select
      (IntOp.andi
        (IntOp.ori (IntOp.andi (BitVec.ofBool (decide P)) (BitVec.ofBool (decide A)))
          (IntOp.andi (BitVec.ofBool (decide E)) (Scalar.xori (BitVec.ofBool (decide A)) 1#1)))
        (IntOp.ori (BitVec.ofBool (decide E)) (BitVec.ofBool (decide E')))) x y
      = if (if A then P else E) ∧ (E ∨ E') then x else y := by
  by_cases hP : P <;> by_cases hE : E <;> by_cases hE' : E' <;> by_cases hA : A <;> simp only [hP, hE, hE', hA] <;> rfl

end Cert.Router

end
-- ==== Proof.Value.Share.lean ====
/-
  One row's weights: the distances of the row from the experts' subspaces, and the softmax of their negatives. With the
  routing rule of Gate.lean this is the whole function that both programs compute.
-/
module

public import proofs.«01_k».proof.Proof.Value.Gate

@[expose] public section

noncomputable section

namespace Cert.Router

open Idealize.ShloMosaic

/-- What the projection on a basis leaves of a row, at one coordinate. -/
def remains (x : Fin 2048 → EReal) (B : Fin 2048 → Fin 64 → EReal) (d : Fin 2048) : EReal :=
  x d - ∑ k : Fin 64, B d k * ∑ d' : Fin 2048, B d' k * x d'

/-- Its length. -/
def gap (x : Fin 2048 → EReal) (B : Fin 2048 → Fin 64 → EReal) : EReal :=
  Ideal.sqrt (∑ d : Fin 2048, remains x B d * remains x B d)

/-- The softmax of eight numbers. -/
def soft (l : Fin 8 → EReal) (e : Fin 8) : EReal :=
  Ideal.div (Ideal.exp (l e - Finset.fold max ⊥ l Finset.univ)) (∑ x : Fin 8, Ideal.exp (l x - Finset.fold max ⊥ l Finset.univ))

/-- A row's weights. -/
def share (V : Fin 8 → Fin 2048 → Fin 64 → EReal) (x : Fin 2048 → EReal) : Fin 8 → EReal :=
  soft fun e => - gap x (V e)

/-- Does any weight of any row pass the threshold? -/
def AnyPass (V : Fin 8 → Fin 2048 → Fin 64 → EReal) (X : Fin 16384 → Fin 2048 → EReal) : Prop :=
  ∃ n e, theta < share V (X n) e

/-- The result: every row's weights under the routing rule. -/
def route (V : Fin 8 → Fin 2048 → Fin 64 → EReal) (X : Fin 16384 → Fin 2048 → EReal) (n : Fin 16384) (e : Fin 8) : EReal :=
  gate (AnyPass V X) (share V (X n)) e

end Cert.Router

end
-- ==== Proof.Value.Kernel.lean ====
/-
  A block of the kernel read at an entry: its weights are the softmax of its rows' distances, its flag says whether one of
  them passes the threshold, and its result is the routing rule on its weights.
-/
module

public import proofs.«01_k».proof.Proof.Value.Share
public import proofs.«01_k».proof.Proof.Ideal.Final
public import Idealize.ShloMosaic.Lib.Pointwise

@[expose] public section

noncomputable section

namespace Cert.KernelIdeal.Router

open Cert.KernelIdeal Cert.KernelIdeal.Gen Cert.Router
open Idealize.ShloMosaic Idealize.ShloMosaic.TcCoe

set_option maxRecDepth 16384

theorem cmpi_ne_zero (a : BitVec 32) : Scalar.cmpi .ne a 0#32 = BitVec.ofBool (decide (a ≠ 0#32)) := by
  show BitVec.ofBool (a != 0#32) = _
  congr 1
  by_cases h : a = 0#32 <;> simp [h]

/-- The masked weights of a block. -/
theorem masked_at (w : Vec Ideal S8x1024 .f32) (a : BitVec 32) (e : Fin 8) (c : Fin 1024) :
    k0_pay13 (F := Ideal) w a (ix2 e c) = kept (a ≠ 0#32) (fun x => w (ix2 x c)) e := by
  pointwise [k0_pay13]
  simp only [negInf, first_word (fun x => w (ix2 x c)), cmpi_expert]
  have sel : ∀ x : Fin 8, Scalar.select (BitVec.ofBool (decide (x = first fun x => w (ix2 x c)))) (⊥ : EReal) (w (ix2 x c))
      = if x = first (fun x => w (ix2 x c)) then ⊥ else w (ix2 x c) := fun x => by
    by_cases h : x = first (fun x => w (ix2 x c)) <;> simp only [h] <;> rfl
  simp only [sel]
  simp only [first_word (fun x => if x = first (fun x => w (ix2 x c)) then ⊥ else w (ix2 x c)), cmpi_expert, cmpi_ne_zero,
    mask_word]
  unfold kept Kept
  by_cases ha : a ≠ 0#32
  · simp only [if_pos ha]
    by_cases ht : theta < w (ix2 e c)
    · simp only [ht, true_and, first_without (fun x => w (ix2 x c)) ht]
    · simp only [ht, false_and, if_false]
  · simp only [if_neg ha]
    by_cases hf : e = first (fun x => w (ix2 x c))
    · simp only [← hf, true_or, true_and]
    · simp only [hf, false_and, if_false]

/-- The result of a block. -/
theorem routed_at (w : Vec Ideal S8x1024 .f32) (a : BitVec 32) (e : Fin 8) (c : Fin 1024) :
    routed (F := Ideal) w a (ix2 e c) = gate (a ≠ 0#32) (fun x => w (ix2 x c)) e := by
  pointwise [routed, k0_pay4, k0_pay14, k0_pay15]
  simp only [masked_at]
  rfl

/-- The weights of a block, of its logits. -/
theorem weights_at (x : Vec Ideal S1024x2048 .f32) (wt : Vec Ideal S512x2048 .f32) (wm : Vec Ideal S2048x512 .f32)
    (e : Fin 8) (c : Fin 1024) :
    weights x wt wm (ix2 e c) = soft (fun e => logits x wt wm (ix2 e c)) e := by
  have hp : peaks x wt wm (Idealize.ShloMosaic.ix1 c) = Finset.fold max ⊥ (fun e => logits x wt wm (ix2 e c)) Finset.univ := by
    rw [← negInf]
    unfold peaks k0_pay12
    show multiReduction .maximumf [0] S1024 (logits x wt wm) 0xFF800000#32 reduces_S8x1024_S1024 (.inl rfl) rfl (Idealize.ShloMosaic.ix1 c) = _
    pointwise
  unfold weights
  pointwise [k0_pay2, k0_pay1]
  rw [hp]
  rfl

/-- A block's flag is up exactly when one of its weights passes the threshold. -/
theorem passes_ne (x : Vec Ideal S1024x2048 .f32) (wt : Vec Ideal S512x2048 .f32) (wm : Vec Ideal S2048x512 .f32) :
    passes x wt wm ≠ 0#32 ↔ ∃ e c, theta < weights x wt wm (ix2 e c) := by
  have hw : ∀ e c, k0_pay1 (logits x wt wm) (peaks x wt wm) (ix2 e c) = weights x wt wm (ix2 e c) := fun e c => by
    unfold weights
    pointwise [k0_pay2]
  have h3 : k0_pay3 (F := Ideal) (logits x wt wm) (peaks x wt wm)
      = Finset.fold max ⊥ (fun i : Fin 8 × Fin 1024 => if theta < weights x wt wm (ix2 i.1 i.2) then (1 : EReal) else 0) Finset.univ := by
    pointwise [k0_pay3]
    simp only [hw, negInf]
  have hb : passes x wt wm = Scalar.extui (BitVec.ofBool (decide ((0 : EReal) < k0_pay3 (F := Ideal) (logits x wt wm) (peaks x wt wm)))) := by
    unfold passes
    generalize k0_pay3 (F := Ideal) (logits x wt wm) (peaks x wt wm) = z
    rw [← Ideal.ofBits_zero_f32]
    rfl
  rw [hb, h3]
  by_cases h : ∃ e c, theta < weights x wt wm (ix2 e c)
  · obtain ⟨e, c, hec⟩ := h
    have : (0 : EReal) < Finset.fold max ⊥ (fun i : Fin 8 × Fin 1024 => if theta < weights x wt wm (ix2 i.1 i.2) then (1 : EReal) else 0) Finset.univ :=
      (Finset.lt_fold_max _).2 (.inr ⟨(e, c), Finset.mem_univ _, by rw [if_pos hec]; exact zero_lt_one⟩)
    rw [decide_eq_true this]
    exact ⟨fun _ => ⟨e, c, hec⟩, fun _ => by decide⟩
  · have : ¬ (0 : EReal) < Finset.fold max ⊥ (fun i : Fin 8 × Fin 1024 => if theta < weights x wt wm (ix2 i.1 i.2) then (1 : EReal) else 0) Finset.univ := by
      refine not_lt.2 ((Finset.fold_max_le _).2 ⟨bot_le, fun i _ => ?_⟩)
      rw [if_neg fun hi => h ⟨i.1, i.2, hi⟩]
    rw [decide_eq_false this]
    exact ⟨fun hne => absurd (by decide) hne, fun h' => absurd h' h⟩

/-- A block's flag is a zero or a one. -/
theorem passes_word (x : Vec Ideal S1024x2048 .f32) (wt : Vec Ideal S512x2048 .f32) (wm : Vec Ideal S2048x512 .f32) :
    passes x wt wm = 0#32 ∨ passes x wt wm = 1#32 := by
  unfold passes
  generalize Scalar.cmpf (F := Ideal) .ogt _ _ = b
  rcases BitVec.eq_zero_or_eq_one b with rfl | rfl
  · exact .inl rfl
  · exact .inr rfl

/-- The logits of a block: the rows' negated distances from the experts' subspaces. -/
theorem logits_at (x : Vec Ideal S1024x2048 .f32) (wt : Vec Ideal S512x2048 .f32) (wm : Vec Ideal S2048x512 .f32)
    (V : Fin 8 → Fin 2048 → Fin 64 → EReal)
    (hm : ∀ (e : Fin 8) (d : Fin 2048) (k : Fin 64), wm (ix2 d ⟨64 * e.val + k.val, by omega⟩) = V e d k)
    (ht : ∀ (e : Fin 8) (d : Fin 2048) (k : Fin 64), wt (ix2 ⟨64 * e.val + k.val, by omega⟩ d) = V e d k)
    (e : Fin 8) (c : Fin 1024) :
    logits x wt wm (ix2 e c) = - gap (fun d => x (ix2 c d)) (V e) := by
  rw [← zero_sub]
  unfold gap remains
  obtain ⟨e, he⟩ := e
  interval_cases e
  · have hm' : ∀ (d : Fin 2048) (k : Fin 64) (h), wm (ix2 d ⟨k.val, h⟩) = V 0 d k := fun d k h => (by simpa using hm 0 d k)
    have ht' : ∀ (d : Fin 2048) (k : Fin 64) (h), wt (ix2 ⟨k.val, h⟩ d) = V 0 d k := fun d k h => (by simpa using ht 0 d k)
    pointwise [logits, k0_pay5, k0_pay6, k0_pay7, k0_pay8, k0_pay9, k0_pay10, k0_pay11, cols]
    simp only [hm', ht']
  · have hm' : ∀ (d : Fin 2048) (k : Fin 64) (h), wm (ix2 d ⟨64 + k.val, h⟩) = V 1 d k := fun d k h => hm 1 d k
    have ht' : ∀ (d : Fin 2048) (k : Fin 64) (h), wt (ix2 ⟨64 + k.val, h⟩ d) = V 1 d k := fun d k h => ht 1 d k
    pointwise [logits, k0_pay5, k0_pay6, k0_pay7, k0_pay8, k0_pay9, k0_pay10, k0_pay11, cols]
    simp only [hm', ht']
  · have hm' : ∀ (d : Fin 2048) (k : Fin 64) (h), wm (ix2 d ⟨128 + k.val, h⟩) = V 2 d k := fun d k h => hm 2 d k
    have ht' : ∀ (d : Fin 2048) (k : Fin 64) (h), wt (ix2 ⟨128 + k.val, h⟩ d) = V 2 d k := fun d k h => ht 2 d k
    pointwise [logits, k0_pay5, k0_pay6, k0_pay7, k0_pay8, k0_pay9, k0_pay10, k0_pay11, cols]
    simp only [hm', ht']
  · have hm' : ∀ (d : Fin 2048) (k : Fin 64) (h), wm (ix2 d ⟨192 + k.val, h⟩) = V 3 d k := fun d k h => hm 3 d k
    have ht' : ∀ (d : Fin 2048) (k : Fin 64) (h), wt (ix2 ⟨192 + k.val, h⟩ d) = V 3 d k := fun d k h => ht 3 d k
    pointwise [logits, k0_pay5, k0_pay6, k0_pay7, k0_pay8, k0_pay9, k0_pay10, k0_pay11, cols]
    simp only [hm', ht']
  · have hm' : ∀ (d : Fin 2048) (k : Fin 64) (h), wm (ix2 d ⟨256 + k.val, h⟩) = V 4 d k := fun d k h => hm 4 d k
    have ht' : ∀ (d : Fin 2048) (k : Fin 64) (h), wt (ix2 ⟨256 + k.val, h⟩ d) = V 4 d k := fun d k h => ht 4 d k
    pointwise [logits, k0_pay5, k0_pay6, k0_pay7, k0_pay8, k0_pay9, k0_pay10, k0_pay11, cols]
    simp only [hm', ht']
  · have hm' : ∀ (d : Fin 2048) (k : Fin 64) (h), wm (ix2 d ⟨320 + k.val, h⟩) = V 5 d k := fun d k h => hm 5 d k
    have ht' : ∀ (d : Fin 2048) (k : Fin 64) (h), wt (ix2 ⟨320 + k.val, h⟩ d) = V 5 d k := fun d k h => ht 5 d k
    pointwise [logits, k0_pay5, k0_pay6, k0_pay7, k0_pay8, k0_pay9, k0_pay10, k0_pay11, cols]
    simp only [hm', ht']
  · have hm' : ∀ (d : Fin 2048) (k : Fin 64) (h), wm (ix2 d ⟨384 + k.val, h⟩) = V 6 d k := fun d k h => hm 6 d k
    have ht' : ∀ (d : Fin 2048) (k : Fin 64) (h), wt (ix2 ⟨384 + k.val, h⟩ d) = V 6 d k := fun d k h => ht 6 d k
    pointwise [logits, k0_pay5, k0_pay6, k0_pay7, k0_pay8, k0_pay9, k0_pay10, k0_pay11, cols]
    simp only [hm', ht']
  · have hm' : ∀ (d : Fin 2048) (k : Fin 64) (h), wm (ix2 d ⟨448 + k.val, h⟩) = V 7 d k := fun d k h => hm 7 d k
    have ht' : ∀ (d : Fin 2048) (k : Fin 64) (h), wt (ix2 ⟨448 + k.val, h⟩ d) = V 7 d k := fun d k h => ht 7 d k
    pointwise [logits, k0_pay5, k0_pay6, k0_pay7, k0_pay8, k0_pay9, k0_pay10, k0_pay11, cols]
    simp only [hm', ht']

end Cert.KernelIdeal.Router

end
-- ==== Proof.Value.KernelResult.lean ====
/-
  The kernel's result read at an entry: the routing rule on the weights of the launched arguments.
-/
module

public import proofs.«01_k».proof.Proof.Value.Kernel
public import Idealize.ShloMosaic.Lib.StableHlo.ReadAt

@[expose] public section

noncomputable section

namespace Cert.KernelIdeal.Router

open Cert.KernelIdeal Cert.KernelIdeal.Gen Cert.Router
open Idealize.ShloMosaic Idealize.ShloMosaic.TcCoe Idealize.ShloMosaic.StableHlo

set_option maxRecDepth 16384

variable (m : (ℓ : Loc nD τ sig) → Buf (Elt Ideal) ℓ)

/-- The rows and the experts' bases of the launch. -/
def rowsOf (c : Dev nD) (n : Fin 16384) (d : Fin 2048) : EReal :=
  (m ((c.tc : Thread nD τ).loc main_arg0) : Vec Ideal S16384x2048 .f32) (ix2 n d)
def basesOf (c : Dev nD) (e : Fin 8) (d : Fin 2048) (k : Fin 64) : EReal :=
  (m ((c.tc : Thread nD τ).loc main_arg2) : Vec Ideal S8x2048x64 .f32) (ix3 e d k)

theorem V_v1_at (c : Dev nD) (d : Fin 2048) (q : Fin 512) :
    (V m c main_v1 : Vec Ideal S2048x512 .f32) (ix2 d q) = basesOf m c ⟨q.val / 64, by omega⟩ d ⟨q.val % 64, by omega⟩ := by
  unfold V basesOf
  after_reads_at

theorem V_v2_at (c : Dev nD) (d : Fin 2048) (q : Fin 512) :
    (V m c main_v2 : Vec Ideal S512x2048 .f32) (ix2 q d) = basesOf m c ⟨q.val / 64, by omega⟩ d ⟨q.val % 64, by omega⟩ := by
  unfold V basesOf
  after_reads_at

theorem rows_off : ∀ t : Fin grid0.N, t.val < 16 → cc0_transform_0 (grid0.coords t) = ![t.val, 0] := by decide +kernel
theorem wide_off : ∀ t : Fin grid0.N, cc0_transform_1 (grid0.coords t) = ![0, 0] := by decide +kernel
theorem tall_off : ∀ t : Fin grid0.N, cc0_transform_2 (grid0.coords t) = ![0, 0] := by decide +kernel

theorem iblk0_at (c : Dev nD) (j : Fin 16) (r : Fin 1024) (d : Fin 2048) :
    (iblk m c 0 (pt j) : Vec Ideal S1024x2048 .f32) (ix2 r d) = rowsOf m c ⟨1024 * j.val + r.val, by omega⟩ d := by
  show (V m c main_arg0 : Vec Ideal S16384x2048 .f32) (((cfg0.win 0).blk (pt j)).view.emb (ix2 r d)) = _
  rw [V_main_arg0]
  unfold rowsOf
  congr 1
  funext a
  refine Fin.ext ?_
  show cc0_transform_0 (grid0.coords (pt j)) a * S1024x2048.size a + 1 * (ix2 r d a).val = _
  rw [rows_off (pt j) j.isLt]
  fin_cases a
  · show j.val * 1024 + 1 * r.val = 1024 * j.val + r.val
    omega
  · show 0 * 2048 + 1 * d.val = d.val
    omega

theorem iblk1_eq (c : Dev nD) (t : Fin cfg0.N) : (iblk m c 1 t : Vec Ideal S512x2048 .f32) = V m c main_v2 := by
  funext y
  show (V m c main_v2 : Vec Ideal S512x2048 .f32) (((cfg0.win 1).blk t).view.emb y) = _
  congr 1
  funext a
  refine Fin.ext ?_
  show cc0_transform_1 (grid0.coords t) a * S512x2048.size a + 1 * (y a).val = _
  rw [wide_off t]
  fin_cases a
  · exact (Nat.zero_add _).trans (Nat.one_mul _)
  · exact (Nat.zero_add _).trans (Nat.one_mul _)

theorem iblk2_eq (c : Dev nD) (t : Fin cfg0.N) : (iblk m c 2 t : Vec Ideal S2048x512 .f32) = V m c main_v1 := by
  funext y
  show (V m c main_v1 : Vec Ideal S2048x512 .f32) (((cfg0.win 2).blk t).view.emb y) = _
  congr 1
  funext a
  refine Fin.ext ?_
  show cc0_transform_2 (grid0.coords t) a * S2048x512.size a + 1 * (y a).val = _
  rw [tall_off t]
  fin_cases a
  · exact (Nat.zero_add _).trans (Nat.one_mul _)
  · exact (Nat.zero_add _).trans (Nat.one_mul _)

theorem bases_split (c : Dev nD) (e : Fin 8) (d : Fin 2048) (k : Fin 64) :
    basesOf m c ⟨(64 * e.val + k.val) / 64, by omega⟩ d ⟨(64 * e.val + k.val) % 64, by omega⟩ = basesOf m c e d k := by
  congr 1
  · exact Fin.ext (show (64 * e.val + k.val) / 64 = e.val by omega)
  · exact Fin.ext (show (64 * e.val + k.val) % 64 = k.val by omega)

/-- A block's weights are its rows' weights. -/
theorem blkW_at (c : Dev nD) (j : Fin 16) (e : Fin 8) (r : Fin 1024) :
    blkW m c j (ix2 e r) = share (basesOf m c) (rowsOf m c ⟨1024 * j.val + r.val, by omega⟩) e := by
  unfold blkW share
  rw [weights_at]
  congr 1
  funext e'
  rw [logits_at _ _ _ (basesOf m c) (fun e d k => by rw [iblk2_eq, V_v1_at]; exact bases_split m c e d k)
    (fun e d k => by rw [iblk1_eq, V_v2_at]; exact bases_split m c e d k)]
  congr 2
  funext d
  exact iblk0_at m c j r d

theorem flagged_first (n : ℕ) (hn : n < 16) (p a : BitVec 32) :
    flagged (BitVec.ofNat 32 n) p a = if n = 0 then p else Scalar.maxsi a p := by
  unfold flagged
  interval_cases n <;> rfl

/-- The flag of the first blocks: a zero or a one, and a one exactly when one of their flags is up. -/
theorem flagAt_spec (c : Dev nD) : ∀ n, n ≤ 16 → (flagAt m c n = 0#32 ∨ flagAt m c n = 1#32)
    ∧ (flagAt m c n ≠ 0#32 ↔ ∃ j : Fin 16, j.val < n ∧ blkP m c j ≠ 0#32)
  | 0, _ => ⟨.inl rfl, fun h => absurd rfl h, fun ⟨_, h, _⟩ => absurd h (Nat.not_lt_zero _)⟩
  | n + 1, hn => by
    obtain ⟨hw, hi⟩ := flagAt_spec c n (by omega)
    have hs : flagAt m c (n + 1) = if n = 0 then blkP m c ⟨n, hn⟩ else Scalar.maxsi (flagAt m c n) (blkP m c ⟨n, hn⟩) := by
      rw [flagAt, dif_pos (show n < 16 from hn), flagged_first n hn]
    have hm : flagAt m c (n + 1) = Scalar.maxsi (flagAt m c n) (blkP m c ⟨n, hn⟩) := by
      rw [hs]
      split
      · next h0 =>
        subst h0
        rcases passes_word (iblk m c 0 (pt ⟨0, hn⟩)) (iblk m c 1 (pt ⟨0, hn⟩)) (iblk m c 2 (pt ⟨0, hn⟩)) with h | h
        · show blkP m c ⟨0, hn⟩ = Scalar.maxsi 0#32 (blkP m c ⟨0, hn⟩)
          rw [show blkP m c ⟨0, hn⟩ = 0#32 from h]; rfl
        · show blkP m c ⟨0, hn⟩ = Scalar.maxsi 0#32 (blkP m c ⟨0, hn⟩)
          rw [show blkP m c ⟨0, hn⟩ = 1#32 from h]; rfl
      · rfl
    have hex : (∃ j : Fin 16, j.val < n + 1 ∧ blkP m c j ≠ 0#32) ↔ (flagAt m c n ≠ 0#32 ∨ blkP m c ⟨n, hn⟩ ≠ 0#32) := by
      rw [hi]
      constructor
      · rintro ⟨j, hj, hp⟩
        rcases Nat.lt_succ_iff_lt_or_eq.1 hj with h | h
        · exact .inl ⟨j, h, hp⟩
        · exact .inr (by rwa [show j = ⟨n, hn⟩ from Fin.ext h] at hp)
      · rintro (⟨j, hj, hp⟩ | hp)
        · exact ⟨j, Nat.lt_succ_of_lt hj, hp⟩
        · exact ⟨⟨n, hn⟩, Nat.lt_succ_self n, hp⟩
    rw [hex, hm]
    have hp : blkP m c ⟨n, hn⟩ = 0#32 ∨ blkP m c ⟨n, hn⟩ = 1#32 := passes_word _ _ _
    rcases hw with h | h <;> rcases hp with h' | h' <;> rw [h, h'] <;> decide

/-- The flag of the whole array: does any weight pass the threshold? -/
theorem flag_ne (c : Dev nD) : flagAt m c 16 ≠ 0#32 ↔ AnyPass (basesOf m c) (rowsOf m c) := by
  rw [(flagAt_spec m c 16 (Nat.le_refl _)).2]
  constructor
  · rintro ⟨j, -, hp⟩
    obtain ⟨e, r, h⟩ := (passes_ne _ _ _).1 hp
    exact ⟨_, e, by rw [← blkW_at m c j e r]; exact h⟩
  · rintro ⟨n, e, h⟩
    refine ⟨⟨n.val / 1024, by omega⟩, by show n.val / 1024 < 16; omega, (passes_ne _ _ _).2 ⟨e, ⟨n.val % 1024, by omega⟩, ?_⟩⟩
    have := blkW_at m c ⟨n.val / 1024, by omega⟩ e ⟨n.val % 1024, by omega⟩
    rw [show (⟨1024 * (n.val / 1024) + n.val % 1024, by omega⟩ : Fin 16384) = n from Fin.ext (Nat.div_add_mod _ _)] at this
    rw [← this] at h
    exact h

/-- The kernel's result. -/
theorem result_at (c : Dev nD) (n : Fin 16384) (e : Fin 8) :
    result m c (ix2 n e) = route (basesOf m c) (rowsOf m c) n e := by
  have h : result m c (ix2 n e) = blkOut m c ⟨n.val / 1024, by omega⟩ (ix2 e ⟨n.val % 1024, by omega⟩) := by
    unfold result
    pointwise
    unfold resArr
    congr 1
    funext a
    match a with
    | ⟨0, _⟩ => rfl
    | ⟨1, _⟩ => rfl
  rw [h]
  unfold blkOut route
  rw [routed_at]
  have hw : (fun x => blkW m c ⟨n.val / 1024, by omega⟩ (ix2 x ⟨n.val % 1024, by omega⟩)) = share (basesOf m c) (rowsOf m c n) := by
    funext x
    rw [blkW_at, show (⟨1024 * (n.val / 1024) + n.val % 1024, by omega⟩ : Fin 16384) = n from Fin.ext (Nat.div_add_mod _ _)]
  rw [hw, show (flagAt m c 16 ≠ 0#32) = AnyPass (basesOf m c) (rowsOf m c) from propext (flag_ne m c)]

end Cert.KernelIdeal.Router

end
-- ==== Proof.Reference.Split.lean ====
/-
  The reference's line cut in four: the eight distances, the softmax of their negatives, the choice of the experts, and
  their weights.
-/
module

public import proofs.«01_k».proof.Proof.Reference.Line
public import Idealize.ShloMosaic.Lib.StableHlo.ReadAt

@[expose] public section

noncomputable section

namespace Cert.ReferenceIdeal.Router

open Idealize.ShloMosaic Idealize.ShloMosaic.TcCoe Idealize.ShloMosaic.StableHlo
open Cert.ReferenceIdeal

variable {F : FTy → Type} [FloatOps F]

set_option maxRecDepth 16384

/-- The operations that compute the distances of every row from every subspace. -/
def opsGap : List (HloOp τ sig (Elt F)) := ops.take 105

/-- The operations that turn distances into shares. -/
def opsShare : List (HloOp τ sig (Elt F)) := (ops.drop 105).take 15

/-- The operations that choose the experts. -/
def opsMask : List (HloOp τ sig (Elt F)) := (ops.drop 120).take 44

/-- The operations that weigh the chosen experts. -/
def opsGate : List (HloOp τ sig (Elt F)) := ops.drop 164

theorem after_parts (V : Valuation τ sig (Elt F)) :
    after ops V = after opsGate (after opsMask (after opsShare (after opsGap V))) := by
  have cut : ∀ (l₁ l₂ : List (HloOp τ sig (Elt F))) (W : Valuation τ sig (Elt F)),
      after l₂ (after l₁ W) = after (l₁ ++ l₂) W := by
    intro l₁
    induction l₁ with
    | nil => intro l₂ W; rfl
    | cons op l ih => intro l₂ W; exact ih l₂ _
  rw [cut, cut, cut, opsGate, opsMask, opsShare, opsGap]
  have h : (ops (F := F)).drop 164 = (ops.drop 120).drop 44 := by rw [List.drop_drop]
  have h' : (ops (F := F)).drop 120 = (ops.drop 105).drop 15 := by rw [List.drop_drop]
  rw [h, List.take_append_drop, h', List.take_append_drop, List.take_append_drop]

end Cert.ReferenceIdeal.Router

end
-- ==== Proof.Reference.Share.lean ====
/-
  The first two parts of the reference's line at an entry: the distance of a row from an expert's subspace, and the
  expert's share in the row.
-/
module

public import proofs.«01_k».proof.Proof.Reference.Split
public import proofs.«01_k».proof.Proof.Value.Share
public import Idealize.ShloMosaic.Lib.Pointwise

@[expose] public section

noncomputable section

namespace Cert.ReferenceIdeal.Router

open Idealize.ShloMosaic Idealize.ShloMosaic.TcCoe Idealize.ShloMosaic.StableHlo
open Cert.ReferenceIdeal Cert.Router

set_option maxRecDepth 16384

variable (V : Valuation τ sig (Elt Ideal))

/-- Row `n` of the rows that `V` holds. -/
def rowOf (n : Fin 16384) (d : Fin 2048) : EReal :=
  (V (Proc.devRef .tc main_arg0) : Vec Ideal S16384x2048 .f32) (ix2 n d)

/-- The basis of expert `e`'s subspace. -/
def basisOf (e : Fin 8) (d : Fin 2048) (k : Fin 64) : EReal :=
  (V (Proc.devRef .tc main_arg2) : Vec Ideal S8x2048x64 .f32) (ix3 e d k)

theorem gap_at (n : Fin 16384) (e : Fin 8) :
    (after opsGap V (Proc.devRef .tc main_v80) : Vec Ideal S16384x8 .f32) (ix2 n e) = gap (rowOf V n) (basisOf V e) := by
  have h0 : (after opsGap V (Proc.devRef .tc main_v80) : Vec Ideal S16384x8 .f32) (ix2 n 0) = gap (rowOf V n) (basisOf V 0) := by
    after_reads_at
    after_reads_at
    rfl
  have h1 : (after opsGap V (Proc.devRef .tc main_v80) : Vec Ideal S16384x8 .f32) (ix2 n 1) = gap (rowOf V n) (basisOf V 1) := by
    after_reads_at
    after_reads_at
    rfl
  have h2 : (after opsGap V (Proc.devRef .tc main_v80) : Vec Ideal S16384x8 .f32) (ix2 n 2) = gap (rowOf V n) (basisOf V 2) := by
    after_reads_at
    after_reads_at
    rfl
  have h3 : (after opsGap V (Proc.devRef .tc main_v80) : Vec Ideal S16384x8 .f32) (ix2 n 3) = gap (rowOf V n) (basisOf V 3) := by
    after_reads_at
    after_reads_at
    rfl
  have h4 : (after opsGap V (Proc.devRef .tc main_v80) : Vec Ideal S16384x8 .f32) (ix2 n 4) = gap (rowOf V n) (basisOf V 4) := by
    after_reads_at
    after_reads_at
    rfl
  have h5 : (after opsGap V (Proc.devRef .tc main_v80) : Vec Ideal S16384x8 .f32) (ix2 n 5) = gap (rowOf V n) (basisOf V 5) := by
    after_reads_at
    after_reads_at
    rfl
  have h6 : (after opsGap V (Proc.devRef .tc main_v80) : Vec Ideal S16384x8 .f32) (ix2 n 6) = gap (rowOf V n) (basisOf V 6) := by
    after_reads_at
    after_reads_at
    rfl
  have h7 : (after opsGap V (Proc.devRef .tc main_v80) : Vec Ideal S16384x8 .f32) (ix2 n 7) = gap (rowOf V n) (basisOf V 7) := by
    after_reads_at
    after_reads_at
    rfl
  revert e
  rw [Fin.forall_fin_succ]
  exact ⟨h0, by
    rw [Fin.forall_fin_succ]; exact ⟨h1, by
    rw [Fin.forall_fin_succ]; exact ⟨h2, by
    rw [Fin.forall_fin_succ]; exact ⟨h3, by
    rw [Fin.forall_fin_succ]; exact ⟨h4, by
    rw [Fin.forall_fin_succ]; exact ⟨h5, by
    rw [Fin.forall_fin_succ]; exact ⟨h6, by
    rw [Fin.forall_fin_succ]; exact ⟨h7, fun e => e.elim0⟩⟩⟩⟩⟩⟩⟩⟩

theorem soft_at (n : Fin 16384) (D : Fin 8 → EReal)
    (hD : ∀ x, (V (Proc.devRef .tc main_v80) : Vec Ideal S16384x8 .f32) (ix2 n x) = D x) (e : Fin 8) :
    (after opsShare V (Proc.devRef .tc main_v92) : Vec Ideal S16384x8 .f32) (ix2 n e) = soft (fun x => - D x) e := by
  obtain rfl : (fun x => (V (Proc.devRef .tc main_v80) : Vec Ideal S16384x8 .f32) (ix2 n x)) = D := funext hD
  after_reads_at
  have h : ∀ y : EReal, max ⊥ y = y := fun y => max_eq_right bot_le
  simp only [negInf, h]
  rfl

/-- The reference's weights are the experts' shares. -/
theorem share_at (n : Fin 16384) (e : Fin 8) :
    (after opsShare (after opsGap V) (Proc.devRef .tc main_v92) : Vec Ideal S16384x8 .f32) (ix2 n e)
      = share (basisOf V) (rowOf V n) e :=
  soft_at (after opsGap V) n (fun e => gap (rowOf V n) (basisOf V e)) (fun x => gap_at V n x) e

end Cert.ReferenceIdeal.Router

end
-- ==== Proof.Value.Choice.lean ====
/-
  The reference's two choices, read on one row: its arg-max is the first expert, and its top two are the first expert and
  the second.
-/
module

public import proofs.«01_k».proof.ReferenceIdeal
public import proofs.«01_k».proof.Proof.Value.Gate
public import Idealize.ShloMosaic.Lib.Pointwise
public import Idealize.ShloMosaic.Lib.SortPrefix

@[expose] public section

noncomputable section

namespace Cert.Router

open Idealize.ShloMosaic
open Cert.ReferenceIdeal
open scoped Classical

set_option maxRecDepth 16384

/-! ## The arg-max -/

theorem slt_expert : ∀ e f : Fin 8, IntOp.cmpi .slt (BitVec.ofNat 32 e.val) (BitVec.ofNat 32 f.val) = BitVec.ofBool (decide (e < f)) := by
  decide +kernel

/-- A pair `p` of the fold stands for expert `e`, with a number that is at most its weight. -/
def Stands (w : Fin 8 → EReal) (p : EReal × BitVec 32) (e : Fin 8) : Prop := p.2 = BitVec.ofNat 32 e.val ∧ p.1 ≤ w e

/-- One step of the fold keeps one of its two pairs, one that neither of the two comes before. -/
theorem step_argmax (a b : EReal × BitVec 32) (e f : Fin 8) (ha : a.2 = BitVec.ofNat 32 e.val) (hb : b.2 = BitVec.ofNat 32 f.val) :
    reducer_argmax_f32_i32 (F := Ideal) a b = if b.1 < a.1 ∨ (a.1 = b.1 ∧ e < f) then a else b := by
  obtain ⟨a1, a2⟩ := a
  obtain ⟨b1, b2⟩ := b
  simp only at ha hb
  subst ha hb
  unfold reducer_argmax_f32_i32
  simp only [slt_expert, Ideal.cmpf_def, Ideal.cmp]
  by_cases h' : a1 = b1
  · subst h'
    by_cases h'' : e < f <;> simp [h'', IntOp.ori, IntOp.andi, Scalar.select]
  · by_cases h : b1 < a1 <;> simp [h, h', IntOp.ori, IntOp.andi, Scalar.select]

/-- A pair `(p, r)` that the pair `(q, e)` does not come before. -/
def Beats (p : EReal) (r : Fin 8) (q : EReal) (e : Fin 8) : Prop := q < p ∨ (q = p ∧ r ≤ e)

theorem Beats.trans {p q s : EReal} {r e f : Fin 8} (h : Beats p r q e) (h' : Beats q e s f) : Beats p r s f := by
  rcases h' with h' | ⟨rfl, h'⟩
  · rcases h with h | ⟨rfl, -⟩
    · exact .inl (h'.trans h)
    · exact .inl h'
  · rcases h with h | ⟨he, h⟩
    · exact .inl h
    · exact .inr ⟨he, h.trans h'⟩

theorem expert_inj : ∀ e f : Fin 8, BitVec.ofNat 32 e.val = BitVec.ofNat 32 f.val → e = f := by decide +kernel

/-- The fold over pairs of weights and numbers ends at a pair of some expert that no pair of the list comes before. -/
theorem fold_argmax (w : Fin 8 → EReal) (l : List (EReal × BitVec 32)) :
    (∀ p ∈ l, ∃ f : Fin 8, p = (w f, BitVec.ofNat 32 f.val)) → ∀ (a : EReal × BitVec 32) (e : Fin 8), Stands w a e →
      ∃ r, Stands w (l.foldl (reducer_argmax_f32_i32 (F := Ideal)) a) r
        ∧ Beats (l.foldl (reducer_argmax_f32_i32 (F := Ideal)) a).1 r a.1 e
        ∧ ∀ f : Fin 8, (w f, BitVec.ofNat 32 f.val) ∈ l → Beats (l.foldl (reducer_argmax_f32_i32 (F := Ideal)) a).1 r (w f) f := by
  induction l with
  | nil => exact fun _ a e h => ⟨e, h, .inr ⟨rfl, le_rfl⟩, fun f hf => absurd hf List.not_mem_nil⟩
  | cons b l ih =>
    intro hl a e h
    obtain ⟨f, rfl⟩ := hl b List.mem_cons_self
    rw [List.foldl_cons, step_argmax a _ e f h.1 rfl]
    have hl' : ∀ p ∈ l, ∃ f : Fin 8, p = (w f, BitVec.ofNat 32 f.val) := fun p hp => hl p (List.mem_cons_of_mem _ hp)
    by_cases hc : w f < a.1 ∨ (a.1 = w f ∧ e < f)
    · rw [if_pos hc]
      obtain ⟨r, h1, h2, h3⟩ := ih hl' a e h
      refine ⟨r, h1, h2, fun g hg => ?_⟩
      rcases List.mem_cons.1 hg with hg | hg
      · obtain rfl := expert_inj g f (Prod.mk.inj hg).2
        exact h2.trans (hc.imp id fun hc => ⟨hc.1.symm, hc.2.le⟩)
      · exact h3 g hg
    · rw [if_neg hc]
      obtain ⟨r, h1, h2, h3⟩ := ih hl' (w f, BitVec.ofNat 32 f.val) f ⟨rfl, le_rfl⟩
      refine ⟨r, h1, h2.trans ?_, fun g hg => ?_⟩
      · rcases lt_or_eq_of_le (not_lt.1 fun h => hc (.inl h)) with h' | h'
        · exact .inl h'
        · exact .inr ⟨h', not_lt.1 fun h'' => hc (.inr ⟨h', h''⟩)⟩
      · rcases List.mem_cons.1 hg with hg | hg
        · obtain rfl := expert_inj g f (Prod.mk.inj hg).2
          exact h2
        · exact h3 g hg

/-- The arg-max of a row is the number of the first expert. -/
theorem argmax_row (x : Vec Ideal S16384x8 .f32) (n : Fin 16384) (h : S16384x8.ReducesTo [1] S16384) (hu : 0 < S_.numel) :
    (Host.argReduce (reducer_argmax_f32_i32 (F := Ideal)) x (iotaInDim S16384x8 32 1) (constant S_ .f32 4286578688#32)
      (constantI S_ 32 0#32) h hu (ix1 n)).2 = BitVec.ofNat 32 (first fun e => x (ix2 n e)).val := by
  rw [Ideal.argReduce_eq_reduce2, Host.reduce2_eq_foldl_fiber]
  have hd : ∀ i : S16384x8.Idx, h.drop i = ix1 n ↔ ∃ e : Fin 8, i = ix2 n e := by
    intro i
    rw [h.fiber_r2_a1]
    exact exists_congr fun e => eq_comm
  have hm : ∀ p, p ∈ Host.argReduceFiber x (iotaInDim S16384x8 32 1) h (ix1 n) ↔ ∃ f : Fin 8, p = (x (ix2 n f), BitVec.ofNat 32 f.val) := by
    intro p
    simp only [Host.argReduceFiber, List.mem_map, List.mem_filter, List.mem_finRange, true_and, decide_eq_true_eq, hd]
    constructor
    · rintro ⟨k, ⟨f, hf⟩, rfl⟩
      exact ⟨f, by rw [hf]; rfl⟩
    · rintro ⟨f, rfl⟩
      exact ⟨S16384x8.rowMajor (ix2 n f), ⟨f, by rw [Equiv.symm_apply_apply]⟩, by rw [Equiv.symm_apply_apply]; rfl⟩
  obtain ⟨r, h1, -, h3⟩ := fold_argmax (fun e => x (ix2 n e)) (Host.argReduceFiber x (iotaInDim S16384x8 32 1) h (ix1 n))
    (fun p hp => (hm p).1 hp) (Ideal.ofBits .f32 0xFF800000#32, 0#32) 0
    ⟨rfl, by rw [negInf]; exact bot_le⟩
  refine h1.1.trans ?_
  congr 2
  refine eq_first fun e he hb => ?_
  have h4 := h3 e ((hm _).2 ⟨e, rfl⟩)
  rcases h4 with h4 | ⟨h4, h5⟩
  · have h6 := lt_of_lt_of_le h4 h1.2
    exact absurd hb.le (not_le.2 h6)
  · rcases hb with hb | ⟨-, hb⟩
    · exact absurd (le_of_eq_of_le h4 h1.2) (not_le.2 hb)
    · exact absurd h5 (not_le.2 hb)

/-! ## The top two -/

/-- `Before` as the sort takes it. -/
def before (w : Fin 8 → EReal) (a b : Fin 8) : Bool := decide (Before w a b)

theorem before_total (w : Fin 8 → EReal) : StrictTotalBefore (before w) where
  irrefl a := decide_eq_false fun h => h.asymm h
  trans a b c h h' := by
    have h := of_decide_eq_true h
    have h' := of_decide_eq_true h'
    refine decide_eq_true ?_
    rcases h with h | ⟨e, h⟩
    · exact .inl (lt_of_le_of_lt h'.le h)
    · rcases h' with h' | ⟨e', h'⟩
      · exact .inl (by rw [e]; exact h')
      · exact .inr ⟨e.trans e', h.trans h'⟩
  total a b h := by
    rcases lt_trichotomy (w a) (w b) with hl | he | hl
    · exact .inr (decide_eq_true (.inl hl))
    · rcases lt_or_gt_of_ne h with hp | hp
      · exact .inl (decide_eq_true (.inr ⟨he, hp⟩))
      · exact .inr (decide_eq_true (.inr ⟨he.symm, hp⟩))
    · exact .inl (decide_eq_true (.inl hl))

/-- Putting an expert before later ones that are in order, by its weight alone, leaves them in order. -/
theorem insert_sorted (w : Fin 8 → EReal) (a : Fin 8) (l : List (Fin 8)) (hl : l.Pairwise fun x y => before w y x = false)
    (ha : ∀ b ∈ l, a < b) :
    (insertBefore (fun x y => decide (w y < w x)) a l).Pairwise fun x y => before w y x = false := by
  induction l with
  | nil => exact List.pairwise_singleton _ _
  | cons b l ih =>
    obtain ⟨h1, h2⟩ := List.pairwise_cons.1 hl
    unfold insertBefore
    by_cases hc : w a < w b
    · rw [if_pos (decide_eq_true hc)]
      refine List.pairwise_cons.2 ⟨fun c hcm => ?_, ih h2 fun c hcl => ha c (List.mem_cons_of_mem _ hcl)⟩
      rcases List.mem_cons.1 ((perm_insertBefore _ a l).mem_iff.1 hcm) with rfl | hcl
      · exact decide_eq_false (Before.asymm (.inl hc))
      · exact h1 c hcl
    · rw [if_neg (by simpa using hc)]
      refine List.pairwise_cons.2 ⟨fun c hcm => ?_, hl⟩
      have hab : Before w a b := by
        rcases lt_or_eq_of_le (not_lt.1 hc) with h | h
        · exact .inl h
        · exact .inr ⟨h.symm, ha b List.mem_cons_self⟩
      rcases List.mem_cons.1 hcm with rfl | hcl
      · exact decide_eq_false hab.asymm
      · exact (before_total w).negTrans c b a (h1 c hcl) (decide_eq_false hab.asymm)

/-- A stable sort by weight alone is the sort by weight and then by number. -/
theorem sort_by_weight (w : Fin 8 → EReal) (k : Fin 8) :
    sortedFrom (fun x y => decide (w y < w x)) k = sortedFrom (before w) k := by
  have h : ∀ l : List (Fin 8), l.Pairwise (· < ·) →
      (stableSort (fun x y => decide (w y < w x)) l).Pairwise fun x y => before w y x = false := by
    intro l
    induction l with
    | nil => exact fun _ => List.Pairwise.nil
    | cons a l ih =>
      intro hl
      obtain ⟨h1, h2⟩ := List.pairwise_cons.1 hl
      exact insert_sorted w a _ (ih h2) fun b hb => h1 b ((perm_stableSort _ l).mem_iff.1 hb)
  have e : sortPositions 8 (fun x y => decide (w y < w x)) = sortPositions 8 (before w) :=
    (before_total w).eq_stableSort_of_sorted (perm_stableSort _ _) (h _ (List.pairwise_lt_finRange 8))
  unfold sortedFrom
  rw [List.get_of_eq e]
  rfl

theorem sorted_first_second (w : Fin 8 → EReal) (j : Fin 2) :
    sortedFrom (fun x y => decide (w y < w x)) (j.castLE (by decide : 2 ≤ 8)) = if j = 0 then first w else second w := by
  rw [sort_by_weight]
  refine (before_total w).sortedFrom_eq_of_prefix (by decide) (fun j : Fin 2 => if j = 0 then first w else second w) ?_ ?_ ?_ j
  · intro a b hab
    have := second_ne w
    fin_cases a <;> fin_cases b <;> simp_all
  · intro a b hab
    have : a = 0 ∧ b = 1 := by revert a b; decide
    obtain ⟨rfl, rfl⟩ := this
    exact decide_eq_false (first_before w (second_ne w)).asymm
  · intro a p hp
    have h0 : p ≠ first w := fun h => hp 0 h.symm
    have h1 : p ≠ second w := fun h => hp 1 h.symm
    refine decide_eq_false ?_
    by_cases ha : a = 0
    · rw [if_pos ha]; exact (first_before w h0).asymm
    · rw [if_neg ha]; exact (second_before w h0 h1).asymm

/-- The numbers of a row's top two. -/
theorem top_row (x : Vec Ideal S16384x8 .f32) (n : Fin 16384) (j : Fin 2) (h : S16384x8.Slices (fun _ => 0) S16384x2) :
    (Host.topK S16384x2 1 (FloatOps.cmpfTotal (F := Ideal) (φ := .f32) .gt) x h).2 (ix2 n j)
      = BitVec.ofNat 32 (if j = 0 then first fun e => x (ix2 n e) else second fun e => x (ix2 n e)).val := by
  rw [← sorted_first_second (fun e => x (ix2 n e)) j]
  have h1 : ∀ (i : Fin 16384) (e k : Fin 8), Shape.Idx.along (s := S16384x8) (ix2 i e) 1 k = ix2 i k := by
    intro i e k
    funext a
    match a with
    | 0 => rfl
    | 1 => rfl
  have h2 : ∀ a b : EReal, (FloatOps.cmpfTotal (F := Ideal) (φ := .f32) .gt a b == 1#1) = decide (b < a) := by
    intro a b
    rw [Ideal.cmpfTotal_def]
    by_cases hab : b < a <;> simp [Ideal.cmp, CmpDirection.ordered, hab]
  unfold Host.topK Host.sort2
  pointwise
  have h3 : (fun k k' : Fin 8 => FloatOps.cmpfTotal (F := Ideal) (φ := .f32) .gt
        (x (Shape.Idx.along (s := S16384x8) (ix2 n ⟨j.val, by omega⟩) 1 k))
        (x (Shape.Idx.along (s := S16384x8) (ix2 n ⟨j.val, by omega⟩) 1 k')) == 1#1)
      = fun k k' => decide (x (ix2 n k') < x (ix2 n k)) := by
    funext k k'
    rw [h1, h1, h2]
  exact congrArg (fun r => BitVec.ofNat 32 (sortedFrom r (j.castLE (by decide : 2 ≤ 8))).val) h3

end Cert.Router

end
-- ==== Proof.Reference.Mask.lean ====
/-
  The reference's mask at an entry: whether the expert is kept in the row.
-/
module

public import proofs.«01_k».proof.Proof.Reference.Split
public import proofs.«01_k».proof.Proof.Value.Choice
public import Idealize.ShloMosaic.Lib.Pointwise.IndexBridge
public import Idealize.ShloMosaic.Lib.Routing.OpsPair
public import Idealize.ShloMosaic.Lib.Routing.OpsSet
public import Idealize.ShloMosaic.Lib.Routing.OpsOrder

@[expose] public section

noncomputable section

namespace Cert.ReferenceIdeal.Router

open Idealize.ShloMosaic Idealize.ShloMosaic.TcCoe Idealize.ShloMosaic.StableHlo
open Cert.ReferenceIdeal Cert.Router
open scoped Classical

set_option maxRecDepth 16384

theorem toInt_row (n : Fin 16384) : (BitVec.ofNat 32 n.val).toInt = n.val := by
  have := n.isLt
  rw [BitVec.toInt_eq_toNat_of_lt (by rw [BitVec.toNat_ofNat]; omega), BitVec.toNat_ofNat]
  omega

theorem toInt_expert (e : Fin 8) : (BitVec.ofNat 32 e.val).toInt = e.val := by
  revert e; decide +kernel

/-- A scatter that sets one entry per row and place, at the row's own number and the number that `σ` gives: the entries
    set are those that `σ` names. -/
theorem scatter_at (σ : Fin 16384 → Fin 2 → Fin 8) (x0 : IVec S16384x8 1) (idx : IVec S16384x2x2 32) (upd : IVec S16384x2 1)
    (hx : ∀ i, x0 i = 0#1) (hu : ∀ i, upd i = 1#1)
    (h0 : ∀ (n : Fin 16384) (j : Fin 2), idx (ix3 n j 0) = BitVec.ofNat 32 n.val)
    (h1 : ∀ (n : Fin 16384) (j : Fin 2), idx (ix3 n j 1) = BitVec.ofNat 32 (σ n j).val) (n : Fin 16384) (e : Fin 8) :
    Host.scatter scatter_S16384x8_S16384x2x2_S16384x2_n_01_01_2 (fun _ b => b) x0 idx upd (ix2 n e)
      = BitVec.ofBool (decide (e = σ n 0 ∨ e = σ n 1)) := by
  have lands : ∀ (a : Fin 16384) (b : Fin 2),
      scatter_S16384x8_S16384x2x2_S16384x2_n_01_01_2.resultIdx? (ix2 a b) idx = some (ix2 n e) ↔ a = n ∧ σ a b = e := by
    intro a b
    rw [ix2_eq_valueIdx, ix2_eq_valueIdx]
    refine (Routing.scatter_lands2 scatter_S16384x8_S16384x2x2_S16384x2_n_01_01_2 rfl rfl rfl idx a b n e).trans ?_
    rw [← ix3_eq_valueIdx, ← ix3_eq_valueIdx, h0, h1, toInt_row, toInt_expert]
    exact and_congr ⟨fun h => Fin.ext (by omega), fun h => by rw [h]⟩ ⟨fun h => Fin.ext (by omega), fun h => by rw [h]⟩
  by_cases h : e = σ n 0 ∨ e = σ n 1
  · rw [decide_eq_true h]
    rcases h with h | h
    · exact Routing.scatter_set_hit _ x0 idx upd _ 1#1 (fun k _ => hu k) (ix2 n 0) ((lands n 0).2 ⟨rfl, h.symm⟩)
    · exact Routing.scatter_set_hit _ x0 idx upd _ 1#1 (fun k _ => hu k) (ix2 n 1) ((lands n 1).2 ⟨rfl, h.symm⟩)
  · rw [decide_eq_false h]
    refine (Routing.scatter_set_miss _ x0 idx upd _ fun k hk => ?_).trans (hx _)
    rw [eq_ix2 k] at hk
    obtain ⟨h2, h3⟩ := (lands _ _).1 hk
    rw [h2] at h3
    refine h ?_
    have h4 : ∀ b : Fin 2, b = 0 ∨ b = 1 := by decide
    rcases h4 (k 1) with h5 | h5
    · exact .inl (by rw [← h3, h5])
    · exact .inr (by rw [← h3, h5])

/-- The reference's mask of one entry, of its bits. -/
theorem keep_word (any A E E' : Prop) [Decidable A] [Decidable E] [Decidable E'] (b : BitVec 1)
    (hb : b = 1#1 ↔ any) :
    IntOp.andi (Scalar.select b (BitVec.ofBool (decide A)) (BitVec.ofBool (decide E))) (BitVec.ofBool (decide (E ∨ E')))
      = BitVec.ofBool (decide ((if any then A else E) ∧ (E ∨ E'))) := by
  rcases BitVec.eq_zero_or_eq_one b with rfl | rfl
  · have hn : ¬ any := fun h => absurd (hb.2 h) (by decide)
    by_cases hA : A <;> by_cases hE : E <;> by_cases hE' : E' <;> simp only [hn, hA, hE, hE'] <;> rfl
  · have hn : any := hb.1 rfl
    by_cases hA : A <;> by_cases hE : E <;> by_cases hE' : E' <;> simp only [hn, hA, hE, hE'] <;> rfl

/-- The or of the bits of a property: is it true of some index? -/
theorem any_word {ι : Type} [Fintype ι] [DecidableEq ι] (p : ι → Prop) [∀ k, Decidable (p k)] :
    Finset.fold IntOp.ori (0#1) (fun k => BitVec.ofBool (decide (p k))) Finset.univ = 1#1 ↔ ∃ k, p k := by
  rw [Routing.fold_ori]
  refine ⟨fun ⟨k, _, hk⟩ => ⟨k, ?_⟩, fun ⟨k, hk⟩ => ⟨k, Finset.mem_univ k, by rw [decide_eq_true hk]; rfl⟩⟩
  by_contra hn
  rw [decide_eq_false hn] at hk
  exact absurd hk (by decide)

variable (V : Valuation τ sig (Elt Ideal))

/-- The mask is set where the expert is kept. -/
theorem mask_at (W : Fin 16384 → Fin 8 → EReal)
    (hW : ∀ n e, (V (Proc.devRef .tc main_v92) : Vec Ideal S16384x8 .f32) (ix2 n e) = W n e) (n : Fin 16384) (e : Fin 8) :
    (after opsMask V (Proc.devRef .tc main_v118) : Vec Ideal S16384x8 .i1) (ix2 n e)
      = BitVec.ofBool (decide (Kept (∃ n e, theta < W n e) (W n) e)) := by
  obtain rfl : (fun n e => (V (Proc.devRef .tc main_v92) : Vec Ideal S16384x8 .f32) (ix2 n e)) = W :=
    funext fun n => funext fun e => hW n e
  after_reads_at
  have h1 := scatter_at (fun n j => if j = 0 then first (fun e => (V (Proc.devRef .tc main_v92) : Vec Ideal S16384x8 .f32) (ix2 n e)) else second (fun e => (V (Proc.devRef .tc main_v92) : Vec Ideal S16384x8 .f32) (ix2 n e)))
    (broadcastInDim S16384x8 ![] Facts₀.bcast_S_S16384x8 (constantI S_ 1 0#1))
    (concatenate S16384x2x2 2
        [⟨S16384x2x1, upto opsMask V 39 (Proc.devRef .tc main_v113)⟩, ⟨S16384x2x1, upto opsMask V 39 (Proc.devRef .tc main_v114)⟩]
        Facts₀.concatenates_S16384x2x1_S16384x2x1_S16384x2x2_d2)
    (broadcastInDim S16384x2 ![] Facts₀.bcast_S_S16384x2 (constantI S_ 1 1#1)) (fun _ => rfl) (fun _ => rfl)
    (by
      intro n j
      pointwise
      after_reads_at
      exact Routing.wrap_of_lt _ _ (by rw [BitVec.toNat_ofNat]; omega))
    (by
      intro n j
      pointwise
      after_reads_at
      rw [top_row]
      exact Routing.wrap_of_lt _ _ (by rw [BitVec.toNat_ofNat]; omega)) n e
  rw [h1, argmax_row, cmpi_expert, decide_eq_decide.2 (eq_comm (b := e))]
  refine (keep_word (∃ n e, theta < (V (Proc.devRef .tc main_v92) : Vec Ideal S16384x8 .f32) (ix2 n e)) _ _ _ _ ?_).trans
    (congrArg BitVec.ofBool (decide_eq_decide.2 Iff.rfl))
  exact (any_word _).trans Prod.exists

end Cert.ReferenceIdeal.Router

end
-- ==== Proof.Reference.Result.lean ====
/-
  The reference's result: every row routed by the rule.
-/
module

public import proofs.«01_k».proof.Proof.Reference.Share
public import proofs.«01_k».proof.Proof.Reference.Mask

@[expose] public section

noncomputable section

namespace Cert.ReferenceIdeal.Router

open Idealize.ShloMosaic Idealize.ShloMosaic.TcCoe Idealize.ShloMosaic.StableHlo
open Cert.ReferenceIdeal Cert.Router
open scoped Classical

set_option maxRecDepth 16384

variable (V : Valuation τ sig (Elt Ideal))

/-- The last part leaves a row's weights under its mask, over their sum. -/
theorem weigh_at (n : Fin 16384) (any : Prop) (w : Fin 8 → EReal)
    (hw : ∀ e, (V (Proc.devRef .tc main_v92) : Vec Ideal S16384x8 .f32) (ix2 n e) = w e)
    (hm : ∀ e, (V (Proc.devRef .tc main_v118) : Vec Ideal S16384x8 .i1) (ix2 n e) = BitVec.ofBool (decide (Kept any w e)))
    (e : Fin 8) :
    (after opsGate V (Proc.devRef .tc main_v128) : Vec Ideal S16384x8 .f32) (ix2 n e) = gate any w e := by
  have hk : ∀ e, w e * FloatOps.uitofp (F := Ideal) .f32 (BitVec.ofBool (decide (Kept any w e))) = kept any w e := by
    have h0 : FloatOps.uitofp (F := Ideal) .f32 0#1 = (0 : EReal) := by
      show (((0#1 : BitVec 1).toNat : ℝ) : EReal) = 0
      simp
    have h1 : FloatOps.uitofp (F := Ideal) .f32 1#1 = (1 : EReal) := by
      show (((1#1 : BitVec 1).toNat : ℝ) : EReal) = 1
      simp
    intro e
    unfold kept
    by_cases h : Kept any w e
    · rw [decide_eq_true h, if_pos h]
      exact (congrArg (w e * ·) h1).trans (mul_one _)
    · rw [decide_eq_false h, if_neg h]
      exact (congrArg (w e * ·) h0).trans (mul_zero _)
  after_reads_at
  simp only [hw, hm]
  simp only [hk]
  rfl

theorem keep_weights : (after opsMask V (Proc.devRef .tc main_v92) : Vec Ideal S16384x8 .f32) = V (Proc.devRef .tc main_v92) := by
  after_reads_simp

theorem result_at (n : Fin 16384) (e : Fin 8) :
    (after ops V (Proc.devRef .tc main_v128) : Vec Ideal S16384x8 .f32) (ix2 n e) = route (basisOf V) (rowOf V) n e := by
  rw [after_parts]
  exact weigh_at _ n _ _ (fun e => (congrFun (keep_weights _) _).trans (share_at V n e))
    (fun e => mask_at _ (fun n e => share (basisOf V) (rowOf V n) e) (fun n e => share_at V n e) n e) e

end Cert.ReferenceIdeal.Router

end
-- ==== Proof.Value.Agree.lean ====
/-
  On the same arguments the kernel and the reference leave the same result: both route every row by the rule.
-/
module

public import proofs.«01_k».proof.Proof.Value.KernelResult
public import proofs.«01_k».proof.Proof.Reference.Result
public import proofs.«01_k».proof.Proof.Reference.Frame

@[expose] public section

noncomputable section

namespace Cert.Router

open Idealize.ShloMosaic Idealize.ShloMosaic.TcCoe Idealize.ShloMosaic.StableHlo

set_option maxRecDepth 16384

theorem agree (m : (ℓ : Loc KernelIdeal.nD KernelIdeal.τ KernelIdeal.sig) → Buf (Elt Ideal) ℓ)
    (m' : (ℓ : Loc ReferenceIdeal.nD ReferenceIdeal.τ ReferenceIdeal.sig) → Buf (Elt Ideal) ℓ) (c : Dev KernelIdeal.nD)
    (h0 : m' ((c.tc : Thread ReferenceIdeal.nD ReferenceIdeal.τ).loc ReferenceIdeal.main_arg0)
      = m ((c.tc : Thread KernelIdeal.nD KernelIdeal.τ).loc KernelIdeal.main_arg0))
    (h2 : m' ((c.tc : Thread ReferenceIdeal.nD ReferenceIdeal.τ).loc ReferenceIdeal.main_arg2)
      = m ((c.tc : Thread KernelIdeal.nD KernelIdeal.τ).loc KernelIdeal.main_arg2)) :
    after ReferenceIdeal.Router.ops (launchContents m' c) (Proc.devRef .tc ReferenceIdeal.main_v128)
      = KernelIdeal.Router.result m c := by
  have rows : ReferenceIdeal.Router.rowOf (launchContents m' c) = KernelIdeal.Router.rowsOf m c :=
    funext fun n => funext fun d => congrFun h0 (ix2 n d)
  have bases : ReferenceIdeal.Router.basisOf (launchContents m' c) = KernelIdeal.Router.basesOf m c :=
    funext fun e => funext fun d => funext fun k => congrFun h2 (ix3 e d k)
  funext j
  obtain ⟨n, e, rfl⟩ : ∃ (n : Fin 16384) (e : Fin 8), j = ix2 n e := ⟨j 0, j 1, eq_ix2 j⟩
  refine (ReferenceIdeal.Router.result_at (launchContents m' c) n e).trans ?_
  rw [rows, bases]
  exact (KernelIdeal.Router.result_at m c n e).symm

end Cert.Router

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import Idealize.ShloMosaic.Adequacy
public import Idealize.ShloMosaic.Init
public import proofs.«01_k».proof.Proof.Bits
public import proofs.«01_k».proof.Proof.Ideal.Final
public import proofs.«01_k».proof.Proof.Reference.Frame
public import proofs.«01_k».proof.Proof.Value.Agree

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  fun m g _ => Cert.Kernel.Router.frame m g,
  fun m g _ => Cert.KernelIdeal.Router.frame m g,
  fun m g _ => Cert.ReferenceIdeal.Router.frame m g,
  trivial,
  fun m g m' g' _ hargs =>
    ⟨Cert.KernelIdeal.Router.result m, Cert.KernelIdeal.Router.value m g,
      Cert.ReferenceIdeal.Router.value m' g' _ fun c => Cert.Router.agree m m' c (hargs c).1 (hargs c).2.2⟩⟩

end Cert.Proof

end
